-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 1024]⟩ (Layout.meshBlock [2, 2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S_ : Shape := ⟨0, ![]⟩
abbrev S1024x1024 : Shape := ⟨2, ![1024, 1024]⟩
abbrev S8 : Shape := ⟨1, ![8]⟩
abbrev S6 : Shape := ⟨1, ![6]⟩
abbrev S2 : Shape := ⟨1, ![2]⟩
abbrev S3 : Shape := ⟨1, ![3]⟩
abbrev S5 : Shape := ⟨1, ![5]⟩
abbrev S1 : Shape := ⟨1, ![1]⟩
abbrev S128x1024 : Shape := ⟨2, ![128, 1024]⟩

abbrev nBuf : Space → Nat
  | .hbm => 26
  | .vmem => 4
  | .smem => 0
  | _ => 0

abbrev bufTy : (tb : Table) → Fin (tcTables nBuf tb) → BufTy
  | .hbm, ⟨0, _⟩ => ⟨S4096x1024, .bf16⟩
  | .hbm, ⟨1, _⟩ => ⟨S_, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S1024x1024, .bf16⟩
  | .hbm, ⟨25, _⟩ => ⟨S4096x1024, .bf16⟩
  | .local _ .vmem, ⟨0, _⟩ => ⟨S1024x1024, .bf16⟩
  | .local _ .vmem, ⟨1, _⟩ => ⟨S4096x1024, .bf16⟩
  | .local _ .vmem, ⟨2, _⟩ => ⟨S1024x1024, .bf16⟩
  | .local _ .vmem, ⟨3, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_c : Ref sig .tc := ⟨.hbm, 1, rfl⟩
abbrev main_c_0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c_1 : Ref sig .tc := ⟨.hbm, 7, rfl⟩
abbrev main_v5 : Ref sig .tc := ⟨.hbm, 8, rfl⟩
abbrev main_c_2 : Ref sig .tc := ⟨.hbm, 9, rfl⟩
abbrev main_c_3 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_4 : Ref sig .tc := ⟨.hbm, 16, rfl⟩
abbrev main_v11 : Ref sig .tc := ⟨.hbm, 17, rfl⟩
abbrev main_c_5 : Ref sig .tc := ⟨.hbm, 18, rfl⟩
abbrev main_v12 : Ref sig .tc := ⟨.hbm, 19, rfl⟩
abbrev main_c_6 : Ref sig .tc := ⟨.hbm, 20, rfl⟩
abbrev main_v13 : Ref sig .tc := ⟨.hbm, 21, rfl⟩
abbrev main_v14 : Ref sig .tc := ⟨.hbm, 22, rfl⟩
abbrev main_c_7 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_15 : BitVec 32 := 4#32
  let v25 : BitVec 32 := Scalar.muli v2 c4_i32_15
  let v26 : BitVec 32 := Scalar.addi c0_i32 v25
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_16 : BitVec 32 := 2#32
  let v27 : BitVec 32 := Scalar.muli v9 c2_i32_16
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v29 : BitVec 32 := Scalar.muli v8 c1_i32_17
  let v30 : BitVec 32 := Scalar.addi v28 v29
  v30.toNat
def k0_dev2 (d0 : Dev nD) : Nat :=
  let c0_i32_20 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_19 : BitVec 32 := 4#32
  let v31 : BitVec 32 := Scalar.muli v10 c4_i32_19
  let v32 : BitVec 32 := Scalar.addi c0_i32_20 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_21 : BitVec 32 := 2#32
  let v33 : BitVec 32 := Scalar.muli v5 c2_i32_21
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_22 : BitVec 32 := 1#32
  let v35 : BitVec 32 := Scalar.muli v8 c1_i32_22
  let v36 : BitVec 32 := Scalar.addi v34 v35
  v36.toNat
def k0_dev3 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v37 : BitVec 32 := Scalar.muli v2 c4_i32_24
  let v38 : BitVec 32 := Scalar.addi c0_i32_25 v37
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v39 : BitVec 32 := Scalar.muli v5 c2_i32_26
  let v40 : BitVec 32 := Scalar.addi v38 v39
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_27 : BitVec 32 := 1#32
  let v41 : BitVec 32 := Scalar.muli v11 c1_i32_27
  let v42 : BitVec 32 := Scalar.addi v40 v41
  v42.toNat
def k0_dev4 (d0 : Dev nD) : Nat :=
  let c0_i32_31 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_30 : BitVec 32 := 4#32
  let v43 : BitVec 32 := Scalar.muli v2 c4_i32_30
  let v44 : BitVec 32 := Scalar.addi c0_i32_31 v43
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_32 : BitVec 32 := 2#32
  let v45 : BitVec 32 := Scalar.muli v9 c2_i32_32
  let v46 : BitVec 32 := Scalar.addi v44 v45
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_33 : BitVec 32 := 1#32
  let v47 : BitVec 32 := Scalar.muli v8 c1_i32_33
  let v48 : BitVec 32 := Scalar.addi v46 v47
  v48.toNat
def k0_dev5 (d0 : Dev nD) : Nat :=
  let c0_i32_41 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_40 : BitVec 32 := 4#32
  let v55 : BitVec 32 := Scalar.muli v2 c4_i32_40
  let v56 : BitVec 32 := Scalar.addi c0_i32_41 v55
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_42 : BitVec 32 := 2#32
  let v57 : BitVec 32 := Scalar.muli v9 c2_i32_42
  let v58 : BitVec 32 := Scalar.addi v56 v57
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_43 : BitVec 32 := 1#32
  let v59 : BitVec 32 := Scalar.muli v8 c1_i32_43
  let v60 : BitVec 32 := Scalar.addi v58 v59
  v60.toNat
def k0_dev6 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_49 : BitVec 32 := 4#32
  let v67 : BitVec 32 := Scalar.muli v2 c4_i32_49
  let v68 : BitVec 32 := Scalar.addi c0_i32_50 v67
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_51 : BitVec 32 := 2#32
  let v69 : BitVec 32 := Scalar.muli v9 c2_i32_51
  let v70 : BitVec 32 := Scalar.addi v68 v69
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_52 : BitVec 32 := 1#32
  let v71 : BitVec 32 := Scalar.muli v8 c1_i32_52
  let v72 : BitVec 32 := Scalar.addi v70 v71
  v72.toNat
def k0_dev7 (d0 : Dev nD) : Nat :=
  let c0_i32_59 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_58 : BitVec 32 := 4#32
  let v79 : BitVec 32 := Scalar.muli v2 c4_i32_58
  let v80 : BitVec 32 := Scalar.addi c0_i32_59 v79
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_60 : BitVec 32 := 2#32
  let v81 : BitVec 32 := Scalar.muli v9 c2_i32_60
  let v82 : BitVec 32 := Scalar.addi v80 v81
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_61 : BitVec 32 := 1#32
  let v83 : BitVec 32 := Scalar.muli v8 c1_i32_61
  let v84 : BitVec 32 := Scalar.addi v82 v83
  v84.toNat
def k0_dev8 (d0 : Dev nD) : Nat :=
  let c0_i32_68 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_67 : BitVec 32 := 4#32
  let v91 : BitVec 32 := Scalar.muli v2 c4_i32_67
  let v92 : BitVec 32 := Scalar.addi c0_i32_68 v91
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_69 : BitVec 32 := 2#32
  let v93 : BitVec 32 := Scalar.muli v9 c2_i32_69
  let v94 : BitVec 32 := Scalar.addi v92 v93
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_70 : BitVec 32 := 1#32
  let v95 : BitVec 32 := Scalar.muli v8 c1_i32_70
  let v96 : BitVec 32 := Scalar.addi v94 v95
  v96.toNat
def k0_dev9 (d0 : Dev nD) : Nat :=
  let c0_i32_76 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_75 : BitVec 32 := 4#32
  let v103 : BitVec 32 := Scalar.muli v2 c4_i32_75
  let v104 : BitVec 32 := Scalar.addi c0_i32_76 v103
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_77 : BitVec 32 := 2#32
  let v105 : BitVec 32 := Scalar.muli v9 c2_i32_77
  let v106 : BitVec 32 := Scalar.addi v104 v105
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_78 : BitVec 32 := 1#32
  let v107 : BitVec 32 := Scalar.muli v8 c1_i32_78
  let v108 : BitVec 32 := Scalar.addi v106 v107
  v108.toNat
def k0_dev10 (d0 : Dev nD) : Nat :=
  let c0_i32_84 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_83 : BitVec 32 := 4#32
  let v115 : BitVec 32 := Scalar.muli v2 c4_i32_83
  let v116 : BitVec 32 := Scalar.addi c0_i32_84 v115
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_85 : BitVec 32 := 2#32
  let v117 : BitVec 32 := Scalar.muli v9 c2_i32_85
  let v118 : BitVec 32 := Scalar.addi v116 v117
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_86 : BitVec 32 := 1#32
  let v119 : BitVec 32 := Scalar.muli v8 c1_i32_86
  let v120 : BitVec 32 := Scalar.addi v118 v119
  v120.toNat
def k0_dev11 (d0 : Dev nD) : Nat :=
  let c0_i32_92 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_91 : BitVec 32 := 4#32
  let v127 : BitVec 32 := Scalar.muli v2 c4_i32_91
  let v128 : BitVec 32 := Scalar.addi c0_i32_92 v127
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_93 : BitVec 32 := 2#32
  let v129 : BitVec 32 := Scalar.muli v9 c2_i32_93
  let v130 : BitVec 32 := Scalar.addi v128 v129
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_94 : BitVec 32 := 1#32
  let v131 : BitVec 32 := Scalar.muli v8 c1_i32_94
  let v132 : BitVec 32 := Scalar.addi v130 v131
  v132.toNat
def k0_off1 (d0 : Dev nD) (c0_i32_113 : BitVec 32) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32 : BitVec 32 := 1024#32
  let v156 : BitVec 32 := Scalar.muli v13 c1024_i32
  let v157 : BitVec 32 := Scalar.addi v156 c0_i32_113
  let c0_i32_120 : BitVec 32 := 0#32
  ![v157.toNat, 0]
def k0_dev12 (d0 : Dev nD) : Nat :=
  let c0_i32_117 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_116 : BitVec 32 := 4#32
  let v158 : BitVec 32 := Scalar.muli v10 c4_i32_116
  let v159 : BitVec 32 := Scalar.addi c0_i32_117 v158
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_118 : BitVec 32 := 2#32
  let v160 : BitVec 32 := Scalar.muli v5 c2_i32_118
  let v161 : BitVec 32 := Scalar.addi v159 v160
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_119 : BitVec 32 := 1#32
  let v162 : BitVec 32 := Scalar.muli v8 c1_i32_119
  let v163 : BitVec 32 := Scalar.addi v161 v162
  v163.toNat
def k0_off2 (d0 : Dev nD) (c0_i32_126 : BitVec 32) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32_125 : BitVec 32 := 1024#32
  let v171 : BitVec 32 := Scalar.muli v13 c1024_i32_125
  let v172 : BitVec 32 := Scalar.addi v171 c0_i32_126
  let v173 : Index := Scalar.indexCast v172
  let c0_127 : Index := 0#32
  ![v173.toNat, 0]
def k0_cond1 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_128 : BitVec 32 := 0#32
  let v175 : BitVec 1 := Scalar.cmpi .eq v5 c0_i32_128
  let v176 : BitVec 32 := Scalar.extui v175
  let c0_i32_129 : BitVec 32 := 0#32
  let v177 : BitVec 1 := Scalar.cmpi .ne v176 c0_i32_129
  v177

def k0_off3 (d0 : Dev nD) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32_853 : BitVec 32 := 1024#32
  let v917 : BitVec 32 := Scalar.muli v13 c1024_i32_853
  let c0_i32_854 : BitVec 32 := 0#32
  let v918 : BitVec 32 := Scalar.addi v917 c0_i32_854
  let c0_i32_861 : BitVec 32 := 0#32
  ![v918.toNat, 0]
def k0_dev13 (d0 : Dev nD) : Nat :=
  let c0_i32_858 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_857 : BitVec 32 := 4#32
  let v919 : BitVec 32 := Scalar.muli v2 c4_i32_857
  let v920 : BitVec 32 := Scalar.addi c0_i32_858 v919
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_859 : BitVec 32 := 2#32
  let v921 : BitVec 32 := Scalar.muli v5 c2_i32_859
  let v922 : BitVec 32 := Scalar.addi v920 v921
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_860 : BitVec 32 := 1#32
  let v923 : BitVec 32 := Scalar.muli v11 c1_i32_860
  let v924 : BitVec 32 := Scalar.addi v922 v923
  v924.toNat
def k0_dev14 (d0 : Dev nD) : Nat :=
  let c0_i32_150 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_149 : BitVec 32 := 4#32
  let v197 : BitVec 32 := Scalar.muli v10 c4_i32_149
  let v198 : BitVec 32 := Scalar.addi c0_i32_150 v197
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_151 : BitVec 32 := 2#32
  let v199 : BitVec 32 := Scalar.muli v5 c2_i32_151
  let v200 : BitVec 32 := Scalar.addi v198 v199
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_152 : BitVec 32 := 1#32
  let v201 : BitVec 32 := Scalar.muli v8 c1_i32_152
  let v202 : BitVec 32 := Scalar.addi v200 v201
  v202.toNat
def k0_cond2 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_161 : BitVec 32 := 0#32
  let v214 : BitVec 1 := Scalar.cmpi .eq v5 c0_i32_161
  let v215 : BitVec 32 := Scalar.extui v214
  let c0_i32_162 : BitVec 32 := 0#32
  let v216 : BitVec 1 := Scalar.cmpi .ne v215 c0_i32_162
  v216

def k0_off4 (d0 : Dev nD) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32_853 : BitVec 32 := 1024#32
  let v917 : BitVec 32 := Scalar.muli v13 c1024_i32_853
  let c128_i32_854 : BitVec 32 := 128#32
  let v918 : BitVec 32 := Scalar.addi v917 c128_i32_854
  let c0_i32_861 : BitVec 32 := 0#32
  ![v918.toNat, 0]
def k0_dev15 (d0 : Dev nD) : Nat :=
  let c0_i32_858 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_857 : BitVec 32 := 4#32
  let v919 : BitVec 32 := Scalar.muli v2 c4_i32_857
  let v920 : BitVec 32 := Scalar.addi c0_i32_858 v919
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_859 : BitVec 32 := 2#32
  let v921 : BitVec 32 := Scalar.muli v5 c2_i32_859
  let v922 : BitVec 32 := Scalar.addi v920 v921
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_860 : BitVec 32 := 1#32
  let v923 : BitVec 32 := Scalar.muli v11 c1_i32_860
  let v924 : BitVec 32 := Scalar.addi v922 v923
  v924.toNat
def k0_off5 (d0 : Dev nD) (c0_i32_175 : BitVec 32) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c1024_i32_174 : BitVec 32 := 1024#32
  let v229 : BitVec 32 := Scalar.muli v16 c1024_i32_174
  let v230 : BitVec 32 := Scalar.addi v229 c0_i32_175
  let c0_i32_182 : BitVec 32 := 0#32
  ![v230.toNat, 0]
def k0_off5_at (r : Fin 5) : BitVec 32 :=
  if r.val < 2 then
    if r.val < 1 then
      0#32
    else
      128#32
  else
    if r.val < 3 then
      640#32
    else
      if r.val < 4 then
        768#32
      else
        896#32
def k0_dev16 (d0 : Dev nD) : Nat :=
  let c0_i32_179 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_178 : BitVec 32 := 4#32
  let v231 : BitVec 32 := Scalar.muli v2 c4_i32_178
  let v232 : BitVec 32 := Scalar.addi c0_i32_179 v231
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_180 : BitVec 32 := 2#32
  let v233 : BitVec 32 := Scalar.muli v5 c2_i32_180
  let v234 : BitVec 32 := Scalar.addi v232 v233
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_181 : BitVec 32 := 1#32
  let v235 : BitVec 32 := Scalar.muli v11 c1_i32_181
  let v236 : BitVec 32 := Scalar.addi v234 v235
  v236.toNat
def k0_dev17 (d0 : Dev nD) : Nat :=
  let c0_i32_204 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_203 : BitVec 32 := 4#32
  let v262 : BitVec 32 := Scalar.muli v10 c4_i32_203
  let v263 : BitVec 32 := Scalar.addi c0_i32_204 v262
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_205 : BitVec 32 := 2#32
  let v264 : BitVec 32 := Scalar.muli v5 c2_i32_205
  let v265 : BitVec 32 := Scalar.addi v263 v264
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_206 : BitVec 32 := 1#32
  let v266 : BitVec 32 := Scalar.muli v8 c1_i32_206
  let v267 : BitVec 32 := Scalar.addi v265 v266
  v267.toNat
def k0_cond3 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_215 : BitVec 32 := 0#32
  let v279 : BitVec 1 := Scalar.cmpi .eq v5 c0_i32_215
  let v280 : BitVec 32 := Scalar.extui v279
  let c0_i32_216 : BitVec 32 := 0#32
  let v281 : BitVec 1 := Scalar.cmpi .ne v280 c0_i32_216
  v281

def k0_off6 (d0 : Dev nD) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32_853 : BitVec 32 := 1024#32
  let v917 : BitVec 32 := Scalar.muli v13 c1024_i32_853
  let c256_i32_854 : BitVec 32 := 256#32
  let v918 : BitVec 32 := Scalar.addi v917 c256_i32_854
  let c0_i32_861 : BitVec 32 := 0#32
  ![v918.toNat, 0]
def k0_dev18 (d0 : Dev nD) : Nat :=
  let c0_i32_858 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_857 : BitVec 32 := 4#32
  let v919 : BitVec 32 := Scalar.muli v2 c4_i32_857
  let v920 : BitVec 32 := Scalar.addi c0_i32_858 v919
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_859 : BitVec 32 := 2#32
  let v921 : BitVec 32 := Scalar.muli v5 c2_i32_859
  let v922 : BitVec 32 := Scalar.addi v920 v921
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_860 : BitVec 32 := 1#32
  let v923 : BitVec 32 := Scalar.muli v11 c1_i32_860
  let v924 : BitVec 32 := Scalar.addi v922 v923
  v924.toNat
def k0_cond4 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_217 : BitVec 32 := 1#32
  let v282 : BitVec 1 := Scalar.cmpi .eq v5 c1_i32_217
  let v283 : BitVec 32 := Scalar.extui v282
  let c0_i32_218 : BitVec 32 := 0#32
  let v284 : BitVec 1 := Scalar.cmpi .ne v283 c0_i32_218
  v284

def k0_off7 (d0 : Dev nD) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32_853 : BitVec 32 := 1024#32
  let v917 : BitVec 32 := Scalar.muli v13 c1024_i32_853
  let c256_i32_854 : BitVec 32 := 256#32
  let v918 : BitVec 32 := Scalar.addi v917 c256_i32_854
  let c0_i32_861 : BitVec 32 := 0#32
  ![v918.toNat, 0]
def k0_dev19 (d0 : Dev nD) : Nat :=
  let c0_i32_858 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_857 : BitVec 32 := 4#32
  let v919 : BitVec 32 := Scalar.muli v2 c4_i32_857
  let v920 : BitVec 32 := Scalar.addi c0_i32_858 v919
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_859 : BitVec 32 := 2#32
  let v921 : BitVec 32 := Scalar.muli v5 c2_i32_859
  let v922 : BitVec 32 := Scalar.addi v920 v921
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_860 : BitVec 32 := 1#32
  let v923 : BitVec 32 := Scalar.muli v11 c1_i32_860
  let v924 : BitVec 32 := Scalar.addi v922 v923
  v924.toNat
def k0_dev20 (d0 : Dev nD) : Nat :=
  let c0_i32_235 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_234 : BitVec 32 := 4#32
  let v299 : BitVec 32 := Scalar.muli v2 c4_i32_234
  let v300 : BitVec 32 := Scalar.addi c0_i32_235 v299
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_236 : BitVec 32 := 2#32
  let v301 : BitVec 32 := Scalar.muli v5 c2_i32_236
  let v302 : BitVec 32 := Scalar.addi v300 v301
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_237 : BitVec 32 := 1#32
  let v303 : BitVec 32 := Scalar.muli v11 c1_i32_237
  let v304 : BitVec 32 := Scalar.addi v302 v303
  v304.toNat
def k0_dev21 (d0 : Dev nD) : Nat :=
  let c0_i32_260 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_259 : BitVec 32 := 4#32
  let v330 : BitVec 32 := Scalar.muli v10 c4_i32_259
  let v331 : BitVec 32 := Scalar.addi c0_i32_260 v330
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_261 : BitVec 32 := 2#32
  let v332 : BitVec 32 := Scalar.muli v5 c2_i32_261
  let v333 : BitVec 32 := Scalar.addi v331 v332
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_262 : BitVec 32 := 1#32
  let v334 : BitVec 32 := Scalar.muli v8 c1_i32_262
  let v335 : BitVec 32 := Scalar.addi v333 v334
  v335.toNat
def k0_cond5 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_271 : BitVec 32 := 0#32
  let v347 : BitVec 1 := Scalar.cmpi .eq v5 c0_i32_271
  let v348 : BitVec 32 := Scalar.extui v347
  let c0_i32_272 : BitVec 32 := 0#32
  let v349 : BitVec 1 := Scalar.cmpi .ne v348 c0_i32_272
  v349

def k0_off8 (d0 : Dev nD) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32_853 : BitVec 32 := 1024#32
  let v917 : BitVec 32 := Scalar.muli v13 c1024_i32_853
  let c384_i32_854 : BitVec 32 := 384#32
  let v918 : BitVec 32 := Scalar.addi v917 c384_i32_854
  let c0_i32_861 : BitVec 32 := 0#32
  ![v918.toNat, 0]
def k0_dev22 (d0 : Dev nD) : Nat :=
  let c0_i32_858 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_857 : BitVec 32 := 4#32
  let v919 : BitVec 32 := Scalar.muli v2 c4_i32_857
  let v920 : BitVec 32 := Scalar.addi c0_i32_858 v919
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_859 : BitVec 32 := 2#32
  let v921 : BitVec 32 := Scalar.muli v5 c2_i32_859
  let v922 : BitVec 32 := Scalar.addi v920 v921
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_860 : BitVec 32 := 1#32
  let v923 : BitVec 32 := Scalar.muli v11 c1_i32_860
  let v924 : BitVec 32 := Scalar.addi v922 v923
  v924.toNat
def k0_cond6 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_273 : BitVec 32 := 1#32
  let v350 : BitVec 1 := Scalar.cmpi .eq v5 c1_i32_273
  let v351 : BitVec 32 := Scalar.extui v350
  let c0_i32_274 : BitVec 32 := 0#32
  let v352 : BitVec 1 := Scalar.cmpi .ne v351 c0_i32_274
  v352

def k0_off9 (d0 : Dev nD) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32_853 : BitVec 32 := 1024#32
  let v917 : BitVec 32 := Scalar.muli v13 c1024_i32_853
  let c384_i32_854 : BitVec 32 := 384#32
  let v918 : BitVec 32 := Scalar.addi v917 c384_i32_854
  let c0_i32_861 : BitVec 32 := 0#32
  ![v918.toNat, 0]
def k0_dev23 (d0 : Dev nD) : Nat :=
  let c0_i32_858 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_857 : BitVec 32 := 4#32
  let v919 : BitVec 32 := Scalar.muli v2 c4_i32_857
  let v920 : BitVec 32 := Scalar.addi c0_i32_858 v919
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_859 : BitVec 32 := 2#32
  let v921 : BitVec 32 := Scalar.muli v5 c2_i32_859
  let v922 : BitVec 32 := Scalar.addi v920 v921
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_860 : BitVec 32 := 1#32
  let v923 : BitVec 32 := Scalar.muli v11 c1_i32_860
  let v924 : BitVec 32 := Scalar.addi v922 v923
  v924.toNat
def k0_dev24 (d0 : Dev nD) : Nat :=
  let c0_i32_295 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_294 : BitVec 32 := 4#32
  let v372 : BitVec 32 := Scalar.muli v10 c4_i32_294
  let v373 : BitVec 32 := Scalar.addi c0_i32_295 v372
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_296 : BitVec 32 := 2#32
  let v374 : BitVec 32 := Scalar.muli v5 c2_i32_296
  let v375 : BitVec 32 := Scalar.addi v373 v374
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_297 : BitVec 32 := 1#32
  let v376 : BitVec 32 := Scalar.muli v8 c1_i32_297
  let v377 : BitVec 32 := Scalar.addi v375 v376
  v377.toNat
def k0_cond7 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_306 : BitVec 32 := 0#32
  let v389 : BitVec 1 := Scalar.cmpi .eq v5 c0_i32_306
  let v390 : BitVec 32 := Scalar.extui v389
  let c0_i32_307 : BitVec 32 := 0#32
  let v391 : BitVec 1 := Scalar.cmpi .ne v390 c0_i32_307
  v391

def k0_off10 (d0 : Dev nD) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32_853 : BitVec 32 := 1024#32
  let v917 : BitVec 32 := Scalar.muli v13 c1024_i32_853
  let c512_i32_854 : BitVec 32 := 512#32
  let v918 : BitVec 32 := Scalar.addi v917 c512_i32_854
  let c0_i32_861 : BitVec 32 := 0#32
  ![v918.toNat, 0]
def k0_dev25 (d0 : Dev nD) : Nat :=
  let c0_i32_858 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_857 : BitVec 32 := 4#32
  let v919 : BitVec 32 := Scalar.muli v2 c4_i32_857
  let v920 : BitVec 32 := Scalar.addi c0_i32_858 v919
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_859 : BitVec 32 := 2#32
  let v921 : BitVec 32 := Scalar.muli v5 c2_i32_859
  let v922 : BitVec 32 := Scalar.addi v920 v921
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_860 : BitVec 32 := 1#32
  let v923 : BitVec 32 := Scalar.muli v11 c1_i32_860
  let v924 : BitVec 32 := Scalar.addi v922 v923
  v924.toNat
def k0_cond8 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_308 : BitVec 32 := 1#32
  let v392 : BitVec 1 := Scalar.cmpi .eq v5 c1_i32_308
  let v393 : BitVec 32 := Scalar.extui v392
  let c0_i32_309 : BitVec 32 := 0#32
  let v394 : BitVec 1 := Scalar.cmpi .ne v393 c0_i32_309
  v394

def k0_off11 (d0 : Dev nD) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32_853 : BitVec 32 := 1024#32
  let v917 : BitVec 32 := Scalar.muli v13 c1024_i32_853
  let c512_i32_854 : BitVec 32 := 512#32
  let v918 : BitVec 32 := Scalar.addi v917 c512_i32_854
  let c0_i32_861 : BitVec 32 := 0#32
  ![v918.toNat, 0]
def k0_dev26 (d0 : Dev nD) : Nat :=
  let c0_i32_858 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_857 : BitVec 32 := 4#32
  let v919 : BitVec 32 := Scalar.muli v2 c4_i32_857
  let v920 : BitVec 32 := Scalar.addi c0_i32_858 v919
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_859 : BitVec 32 := 2#32
  let v921 : BitVec 32 := Scalar.muli v5 c2_i32_859
  let v922 : BitVec 32 := Scalar.addi v920 v921
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_860 : BitVec 32 := 1#32
  let v923 : BitVec 32 := Scalar.muli v11 c1_i32_860
  let v924 : BitVec 32 := Scalar.addi v922 v923
  v924.toNat
def k0_dev27 (d0 : Dev nD) : Nat :=
  let c0_i32_330 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_329 : BitVec 32 := 4#32
  let v414 : BitVec 32 := Scalar.muli v10 c4_i32_329
  let v415 : BitVec 32 := Scalar.addi c0_i32_330 v414
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_331 : BitVec 32 := 2#32
  let v416 : BitVec 32 := Scalar.muli v5 c2_i32_331
  let v417 : BitVec 32 := Scalar.addi v415 v416
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_332 : BitVec 32 := 1#32
  let v418 : BitVec 32 := Scalar.muli v8 c1_i32_332
  let v419 : BitVec 32 := Scalar.addi v417 v418
  v419.toNat
def k0_cond9 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_341 : BitVec 32 := 0#32
  let v431 : BitVec 1 := Scalar.cmpi .eq v5 c0_i32_341
  let v432 : BitVec 32 := Scalar.extui v431
  let c0_i32_342 : BitVec 32 := 0#32
  let v433 : BitVec 1 := Scalar.cmpi .ne v432 c0_i32_342
  v433

def k0_off12 (d0 : Dev nD) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32_853 : BitVec 32 := 1024#32
  let v917 : BitVec 32 := Scalar.muli v13 c1024_i32_853
  let c640_i32_854 : BitVec 32 := 640#32
  let v918 : BitVec 32 := Scalar.addi v917 c640_i32_854
  let c0_i32_861 : BitVec 32 := 0#32
  ![v918.toNat, 0]
def k0_dev28 (d0 : Dev nD) : Nat :=
  let c0_i32_858 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_857 : BitVec 32 := 4#32
  let v919 : BitVec 32 := Scalar.muli v2 c4_i32_857
  let v920 : BitVec 32 := Scalar.addi c0_i32_858 v919
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_859 : BitVec 32 := 2#32
  let v921 : BitVec 32 := Scalar.muli v5 c2_i32_859
  let v922 : BitVec 32 := Scalar.addi v920 v921
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_860 : BitVec 32 := 1#32
  let v923 : BitVec 32 := Scalar.muli v11 c1_i32_860
  let v924 : BitVec 32 := Scalar.addi v922 v923
  v924.toNat
def k0_cond10 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_343 : BitVec 32 := 1#32
  let v434 : BitVec 1 := Scalar.cmpi .eq v5 c1_i32_343
  let v435 : BitVec 32 := Scalar.extui v434
  let c0_i32_344 : BitVec 32 := 0#32
  let v436 : BitVec 1 := Scalar.cmpi .ne v435 c0_i32_344
  v436

def k0_off13 (d0 : Dev nD) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32_853 : BitVec 32 := 1024#32
  let v917 : BitVec 32 := Scalar.muli v13 c1024_i32_853
  let c640_i32_854 : BitVec 32 := 640#32
  let v918 : BitVec 32 := Scalar.addi v917 c640_i32_854
  let c0_i32_861 : BitVec 32 := 0#32
  ![v918.toNat, 0]
def k0_dev29 (d0 : Dev nD) : Nat :=
  let c0_i32_858 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_857 : BitVec 32 := 4#32
  let v919 : BitVec 32 := Scalar.muli v2 c4_i32_857
  let v920 : BitVec 32 := Scalar.addi c0_i32_858 v919
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_859 : BitVec 32 := 2#32
  let v921 : BitVec 32 := Scalar.muli v5 c2_i32_859
  let v922 : BitVec 32 := Scalar.addi v920 v921
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_860 : BitVec 32 := 1#32
  let v923 : BitVec 32 := Scalar.muli v11 c1_i32_860
  let v924 : BitVec 32 := Scalar.addi v922 v923
  v924.toNat
def k0_dev30 (d0 : Dev nD) : Nat :=
  let c0_i32_365 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_364 : BitVec 32 := 4#32
  let v456 : BitVec 32 := Scalar.muli v10 c4_i32_364
  let v457 : BitVec 32 := Scalar.addi c0_i32_365 v456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_366 : BitVec 32 := 2#32
  let v458 : BitVec 32 := Scalar.muli v5 c2_i32_366
  let v459 : BitVec 32 := Scalar.addi v457 v458
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_367 : BitVec 32 := 1#32
  let v460 : BitVec 32 := Scalar.muli v8 c1_i32_367
  let v461 : BitVec 32 := Scalar.addi v459 v460
  v461.toNat
def k0_cond11 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_376 : BitVec 32 := 1#32
  let v473 : BitVec 1 := Scalar.cmpi .eq v5 c1_i32_376
  let v474 : BitVec 32 := Scalar.extui v473
  let c0_i32_377 : BitVec 32 := 0#32
  let v475 : BitVec 1 := Scalar.cmpi .ne v474 c0_i32_377
  v475

def k0_off14 (d0 : Dev nD) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32_853 : BitVec 32 := 1024#32
  let v917 : BitVec 32 := Scalar.muli v13 c1024_i32_853
  let c768_i32_854 : BitVec 32 := 768#32
  let v918 : BitVec 32 := Scalar.addi v917 c768_i32_854
  let c0_i32_861 : BitVec 32 := 0#32
  ![v918.toNat, 0]
def k0_dev31 (d0 : Dev nD) : Nat :=
  let c0_i32_858 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_857 : BitVec 32 := 4#32
  let v919 : BitVec 32 := Scalar.muli v2 c4_i32_857
  let v920 : BitVec 32 := Scalar.addi c0_i32_858 v919
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_859 : BitVec 32 := 2#32
  let v921 : BitVec 32 := Scalar.muli v5 c2_i32_859
  let v922 : BitVec 32 := Scalar.addi v920 v921
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_860 : BitVec 32 := 1#32
  let v923 : BitVec 32 := Scalar.muli v11 c1_i32_860
  let v924 : BitVec 32 := Scalar.addi v922 v923
  v924.toNat
def k0_dev32 (d0 : Dev nD) : Nat :=
  let c0_i32_398 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_397 : BitVec 32 := 4#32
  let v495 : BitVec 32 := Scalar.muli v10 c4_i32_397
  let v496 : BitVec 32 := Scalar.addi c0_i32_398 v495
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_399 : BitVec 32 := 2#32
  let v497 : BitVec 32 := Scalar.muli v5 c2_i32_399
  let v498 : BitVec 32 := Scalar.addi v496 v497
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_400 : BitVec 32 := 1#32
  let v499 : BitVec 32 := Scalar.muli v8 c1_i32_400
  let v500 : BitVec 32 := Scalar.addi v498 v499
  v500.toNat
def k0_cond12 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_409 : BitVec 32 := 1#32
  let v512 : BitVec 1 := Scalar.cmpi .eq v5 c1_i32_409
  let v513 : BitVec 32 := Scalar.extui v512
  let c0_i32_410 : BitVec 32 := 0#32
  let v514 : BitVec 1 := Scalar.cmpi .ne v513 c0_i32_410
  v514

def k0_off15 (d0 : Dev nD) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32_853 : BitVec 32 := 1024#32
  let v917 : BitVec 32 := Scalar.muli v13 c1024_i32_853
  let c896_i32_854 : BitVec 32 := 896#32
  let v918 : BitVec 32 := Scalar.addi v917 c896_i32_854
  let c0_i32_861 : BitVec 32 := 0#32
  ![v918.toNat, 0]
def k0_dev33 (d0 : Dev nD) : Nat :=
  let c0_i32_858 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_857 : BitVec 32 := 4#32
  let v919 : BitVec 32 := Scalar.muli v2 c4_i32_857
  let v920 : BitVec 32 := Scalar.addi c0_i32_858 v919
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_859 : BitVec 32 := 2#32
  let v921 : BitVec 32 := Scalar.muli v5 c2_i32_859
  let v922 : BitVec 32 := Scalar.addi v920 v921
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_860 : BitVec 32 := 1#32
  let v923 : BitVec 32 := Scalar.muli v11 c1_i32_860
  let v924 : BitVec 32 := Scalar.addi v922 v923
  v924.toNat
def k0_cond13 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_411 : BitVec 32 := 0#32
  let v515 : BitVec 1 := Scalar.cmpi .eq v5 c0_i32_411
  let v516 : BitVec 32 := Scalar.extui v515
  let c0_i32_412 : BitVec 32 := 0#32
  let v517 : BitVec 1 := Scalar.cmpi .ne v516 c0_i32_412
  v517

def k0_off16 (d0 : Dev nD) (c0_i32_854 : BitVec 32) : Fin 2 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c1024_i32_853 : BitVec 32 := 1024#32
  let v917 : BitVec 32 := Scalar.muli v19 c1024_i32_853
  let v918 : BitVec 32 := Scalar.addi v917 c0_i32_854
  let c0_i32_861 : BitVec 32 := 0#32
  ![v918.toNat, 0]
def k0_dev34 (d0 : Dev nD) : Nat :=
  let c0_i32_871 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_870 : BitVec 32 := 4#32
  let v933 : BitVec 32 := Scalar.muli v2 c4_i32_870
  let v934 : BitVec 32 := Scalar.addi c0_i32_871 v933
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_872 : BitVec 32 := 2#32
  let v935 : BitVec 32 := Scalar.muli v9 c2_i32_872
  let v936 : BitVec 32 := Scalar.addi v934 v935
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_873 : BitVec 32 := 1#32
  let v937 : BitVec 32 := Scalar.muli v8 c1_i32_873
  let v938 : BitVec 32 := Scalar.addi v936 v937
  v938.toNat
def k0_dev35 (d0 : Dev nD) : Nat :=
  let c0_i32_894 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_893 : BitVec 32 := 4#32
  let v961 : BitVec 32 := Scalar.muli v2 c4_i32_893
  let v962 : BitVec 32 := Scalar.addi c0_i32_894 v961
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_895 : BitVec 32 := 2#32
  let v963 : BitVec 32 := Scalar.muli v9 c2_i32_895
  let v964 : BitVec 32 := Scalar.addi v962 v963
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_896 : BitVec 32 := 1#32
  let v965 : BitVec 32 := Scalar.muli v8 c1_i32_896
  let v966 : BitVec 32 := Scalar.addi v964 v965
  v966.toNat
def k0_dev36 (d0 : Dev nD) : Nat :=
  let c0_i32_917 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_916 : BitVec 32 := 4#32
  let v989 : BitVec 32 := Scalar.muli v10 c4_i32_916
  let v990 : BitVec 32 := Scalar.addi c0_i32_917 v989
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_918 : BitVec 32 := 2#32
  let v991 : BitVec 32 := Scalar.muli v5 c2_i32_918
  let v992 : BitVec 32 := Scalar.addi v990 v991
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_919 : BitVec 32 := 1#32
  let v993 : BitVec 32 := Scalar.muli v8 c1_i32_919
  let v994 : BitVec 32 := Scalar.addi v992 v993
  v994.toNat
def k0_dev37 (d0 : Dev nD) : Nat :=
  let c0_i32_940 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_939 : BitVec 32 := 4#32
  let v1017 : BitVec 32 := Scalar.muli v10 c4_i32_939
  let v1018 : BitVec 32 := Scalar.addi c0_i32_940 v1017
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_941 : BitVec 32 := 2#32
  let v1019 : BitVec 32 := Scalar.muli v5 c2_i32_941
  let v1020 : BitVec 32 := Scalar.addi v1018 v1019
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_942 : BitVec 32 := 1#32
  let v1021 : BitVec 32 := Scalar.muli v8 c1_i32_942
  let v1022 : BitVec 32 := Scalar.addi v1020 v1021
  v1022.toNat
def k0_dev38 (d0 : Dev nD) : Nat :=
  let c0_i32_963 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_962 : BitVec 32 := 4#32
  let v1045 : BitVec 32 := Scalar.muli v10 c4_i32_962
  let v1046 : BitVec 32 := Scalar.addi c0_i32_963 v1045
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_964 : BitVec 32 := 2#32
  let v1047 : BitVec 32 := Scalar.muli v5 c2_i32_964
  let v1048 : BitVec 32 := Scalar.addi v1046 v1047
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_965 : BitVec 32 := 1#32
  let v1049 : BitVec 32 := Scalar.muli v8 c1_i32_965
  let v1050 : BitVec 32 := Scalar.addi v1048 v1049
  v1050.toNat
def k0_cond14 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_413 : BitVec 32 := 1#32
  let v518 : BitVec 1 := Scalar.cmpi .eq v5 c1_i32_413
  let v519 : BitVec 32 := Scalar.extui v518
  let c0_i32_414 : BitVec 32 := 0#32
  let v520 : BitVec 1 := Scalar.cmpi .ne v519 c0_i32_414
  v520

def k0_off17 (d0 : Dev nD) (c256_i32_854 : BitVec 32) : Fin 2 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c1024_i32_853 : BitVec 32 := 1024#32
  let v917 : BitVec 32 := Scalar.muli v19 c1024_i32_853
  let v918 : BitVec 32 := Scalar.addi v917 c256_i32_854
  let c0_i32_861 : BitVec 32 := 0#32
  ![v918.toNat, 0]
def k0_dev39 (d0 : Dev nD) : Nat :=
  let c0_i32_871 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_870 : BitVec 32 := 4#32
  let v933 : BitVec 32 := Scalar.muli v10 c4_i32_870
  let v934 : BitVec 32 := Scalar.addi c0_i32_871 v933
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_872 : BitVec 32 := 2#32
  let v935 : BitVec 32 := Scalar.muli v5 c2_i32_872
  let v936 : BitVec 32 := Scalar.addi v934 v935
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_873 : BitVec 32 := 1#32
  let v937 : BitVec 32 := Scalar.muli v8 c1_i32_873
  let v938 : BitVec 32 := Scalar.addi v936 v937
  v938.toNat
def k0_dev40 (d0 : Dev nD) : Nat :=
  let c0_i32_894 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_893 : BitVec 32 := 4#32
  let v961 : BitVec 32 := Scalar.muli v10 c4_i32_893
  let v962 : BitVec 32 := Scalar.addi c0_i32_894 v961
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_895 : BitVec 32 := 2#32
  let v963 : BitVec 32 := Scalar.muli v5 c2_i32_895
  let v964 : BitVec 32 := Scalar.addi v962 v963
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_896 : BitVec 32 := 1#32
  let v965 : BitVec 32 := Scalar.muli v8 c1_i32_896
  let v966 : BitVec 32 := Scalar.addi v964 v965
  v966.toNat
def k0_dev41 (d0 : Dev nD) : Nat :=
  let c0_i32_917 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_916 : BitVec 32 := 4#32
  let v989 : BitVec 32 := Scalar.muli v10 c4_i32_916
  let v990 : BitVec 32 := Scalar.addi c0_i32_917 v989
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_918 : BitVec 32 := 2#32
  let v991 : BitVec 32 := Scalar.muli v5 c2_i32_918
  let v992 : BitVec 32 := Scalar.addi v990 v991
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_919 : BitVec 32 := 1#32
  let v993 : BitVec 32 := Scalar.muli v8 c1_i32_919
  let v994 : BitVec 32 := Scalar.addi v992 v993
  v994.toNat
def k0_dev42 (d0 : Dev nD) : Nat :=
  let c0_i32_951 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_950 : BitVec 32 := 4#32
  let v1029 : BitVec 32 := Scalar.muli v2 c4_i32_950
  let v1030 : BitVec 32 := Scalar.addi c0_i32_951 v1029
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_952 : BitVec 32 := 2#32
  let v1031 : BitVec 32 := Scalar.muli v9 c2_i32_952
  let v1032 : BitVec 32 := Scalar.addi v1030 v1031
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_953 : BitVec 32 := 1#32
  let v1033 : BitVec 32 := Scalar.muli v8 c1_i32_953
  let v1034 : BitVec 32 := Scalar.addi v1032 v1033
  v1034.toNat
def k0_dev43 (d0 : Dev nD) : Nat :=
  let c0_i32_974 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_973 : BitVec 32 := 4#32
  let v1057 : BitVec 32 := Scalar.muli v2 c4_i32_973
  let v1058 : BitVec 32 := Scalar.addi c0_i32_974 v1057
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_975 : BitVec 32 := 2#32
  let v1059 : BitVec 32 := Scalar.muli v9 c2_i32_975
  let v1060 : BitVec 32 := Scalar.addi v1058 v1059
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_976 : BitVec 32 := 1#32
  let v1061 : BitVec 32 := Scalar.muli v8 c1_i32_976
  let v1062 : BitVec 32 := Scalar.addi v1060 v1061
  v1062.toNat
def k0_dev44 (d0 : Dev nD) : Nat :=
  let c0_i32_431 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_430 : BitVec 32 := 4#32
  let v535 : BitVec 32 := Scalar.muli v2 c4_i32_430
  let v536 : BitVec 32 := Scalar.addi c0_i32_431 v535
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_432 : BitVec 32 := 2#32
  let v537 : BitVec 32 := Scalar.muli v5 c2_i32_432
  let v538 : BitVec 32 := Scalar.addi v536 v537
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_433 : BitVec 32 := 1#32
  let v539 : BitVec 32 := Scalar.muli v11 c1_i32_433
  let v540 : BitVec 32 := Scalar.addi v538 v539
  v540.toNat
def k0_dev45 (d0 : Dev nD) : Nat :=
  let c0_i32_452 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_451 : BitVec 32 := 4#32
  let v561 : BitVec 32 := Scalar.muli v2 c4_i32_451
  let v562 : BitVec 32 := Scalar.addi c0_i32_452 v561
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_453 : BitVec 32 := 2#32
  let v563 : BitVec 32 := Scalar.muli v5 c2_i32_453
  let v564 : BitVec 32 := Scalar.addi v562 v563
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_454 : BitVec 32 := 1#32
  let v565 : BitVec 32 := Scalar.muli v11 c1_i32_454
  let v566 : BitVec 32 := Scalar.addi v564 v565
  v566.toNat
def k0_dev46 (d0 : Dev nD) : Nat :=
  let c0_i32_473 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_472 : BitVec 32 := 4#32
  let v587 : BitVec 32 := Scalar.muli v2 c4_i32_472
  let v588 : BitVec 32 := Scalar.addi c0_i32_473 v587
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_474 : BitVec 32 := 2#32
  let v589 : BitVec 32 := Scalar.muli v5 c2_i32_474
  let v590 : BitVec 32 := Scalar.addi v588 v589
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_475 : BitVec 32 := 1#32
  let v591 : BitVec 32 := Scalar.muli v11 c1_i32_475
  let v592 : BitVec 32 := Scalar.addi v590 v591
  v592.toNat
def k0_off18 (d0 : Dev nD) (c0_i32_507 : BitVec 32) : Fin 2 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c1024_i32_508 : BitVec 32 := 1024#32
  let v632 : BitVec 32 := Scalar.muli v19 c1024_i32_508
  let c6_i32_506 : BitVec 32 := 6#32
  let c1_i32_505 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v629 : BitVec 32 := Scalar.subi c1_i32_505 v5
  let v630 : BitVec 32 := Scalar.muli c6_i32_506 v629
  let v631 : BitVec 32 := Scalar.addi v630 c0_i32_507
  let c128_i32_509 : BitVec 32 := 128#32
  let v633 : BitVec 32 := Scalar.muli v631 c128_i32_509
  let v634 : BitVec 32 := Scalar.addi v632 v633
  let c0_i32_516 : BitVec 32 := 0#32
  ![v634.toNat, 0]
def k0_off19 (d0 : Dev nD) (c256_i32_534 : BitVec 32) : Fin 2 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c1024_i32_533 : BitVec 32 := 1024#32
  let v661 : BitVec 32 := Scalar.muli v23 c1024_i32_533
  let v662 : BitVec 32 := Scalar.addi v661 c256_i32_534
  let c0_i32_541 : BitVec 32 := 0#32
  ![v662.toNat, 0]
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x1024 : Shape := ⟨2, ![8192, 1024]⟩
abbrev S2x4096x1024 : Shape := ⟨3, ![2, 4096, 1024]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x4096x1024, .bf16⟩
  | .hbm, ⟨2, _⟩ => ⟨S2x4096x1024, .f32⟩
  | .hbm, ⟨3, _⟩ => ⟨S_, .f32⟩
  | .hbm, ⟨4, _⟩ => ⟨S4096x1024, .f32⟩
  | .hbm, ⟨5, _⟩ => ⟨S4096x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Common.lean ====
/-
  The kernel's protocol, in one table.  A device's 32 transfers are numbered 0 .. 31; a transfer has a sending
  cell on its sender, a receiving cell on its receiver, a source chunk and a landing chunk.

    0 ..  7   p1   x chunk k            -> the partner along y, its receive buffer
    8 .. 15   px   reduced chunk k      -> the partner along x, its result
   16 .. 21   pz   reduced chunk j + 2y -> the partner along z, its result
   22 .. 23   fy   a landed pz chunk    -> the partner along y, its result
   24 .. 26   fx   a landed pz chunk    -> the partner along x, its result
   27 .. 31   fz   a landed px chunk    -> the partner along z, its result

  Device 4x + 2y + z.  All chunks are 128 rows of 1024 columns.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.StableHlo
public import Idealize.ShloMosaic.Lib.Tactic

@[expose] public section

noncomputable section

namespace Cert.Proof.K

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The resource algebra: the pipeline library's rounds, and the protocol's with three duties a round -/

abbrev UT : Type := URounds (GSem nD τ sig) (Fin 3)
abbrev UU : Type := UR sig nD τ × UT

local notation "𝕄" => MT nD τ sig Unit (Elt F) ℕ UU ℕ

abbrev EP : Emb (UR sig nD τ) (MT nD τ sig Unit (Elt F) ℕ UU ℕ) := embL
abbrev ER : Emb UT (MT nD τ sig Unit (Elt F) ℕ UU ℕ) := embR

/-! ## Partners -/

/-- The partner along y, along x, along z. -/
def pk (d : Fin 3) (c : Dev nD) : Dev nD :=
  ⟨c.val ^^^ (if d = 0 then 2 else if d = 1 then 4 else 1), by revert c d; decide⟩
theorem pk_pk (d : Fin 3) (c : Dev nD) : pk d (pk d c) = c := by revert c d; decide
/-- A partnership, as a permutation of the devices. -/
def pkE (d : Fin 3) : Dev nD ≃ Dev nD := ⟨pk d, pk d, pk_pk d, pk_pk d⟩

/-- The axis a transfer goes along. -/
def kd (i : Fin 32) : Fin 3 :=
  if i.val < 8 then 0 else if i.val < 16 then 1 else if i.val < 22 then 2 else if i.val < 24 then 0 else if i.val < 27 then 1 else 2

abbrev peer (i : Fin 32) (c : Dev nD) : Dev nD := pk (kd i) c
theorem peer_peer (i : Fin 32) (c : Dev nD) : peer i (peer i c) = c := pk_pk _ _

/-! ## Cells -/

/-- The semaphore a transfer raises on its sender once its source is read. -/
def sS (i : Fin 32) : DmaSem sig :=
  ⟨if i.val < 8 then 2 + i.val else if i.val < 16 then 10 + i.val else if i.val < 22 then 18 + i.val
    else if i.val < 24 then 24 + i.val else if i.val < 27 then 26 + i.val else 29 + i.val, by revert i; decide⟩
/-- The semaphore it raises on its receiver once it has landed. -/
def sR (i : Fin 32) : DmaSem sig :=
  ⟨if i.val < 8 then 10 + i.val else if i.val < 16 then 18 + i.val else if i.val < 22 then 24 + i.val
    else if i.val < 24 then 26 + i.val else if i.val < 27 then 29 + i.val else 34 + i.val, by revert i; decide⟩

abbrev barS : Sem sig := ⟨0, by decide⟩

abbrev barCell (c : Dev nD) : GSem nD τ sig := ((c : Thread nD τ), .reg barS)
abbrev sCell (i : Fin 32) (c : Dev nD) : GSem nD τ sig := ((c : Thread nD τ), .dma (sS i))
abbrev rCell (i : Fin 32) (c : Dev nD) : GSem nD τ sig := ((c : Thread nD τ), .dma (sR i))

/-- Which transfer's sending semaphore this is; which one's receiving semaphore. -/
def whichS (s : DmaSem sig) : Option (Fin 32) := (List.finRange 32).find? fun i => sS i == s
def whichR (s : DmaSem sig) : Option (Fin 32) := (List.finRange 32).find? fun i => sR i == s

theorem whichS_sS (i : Fin 32) : whichS (sS i) = some i := by revert i; decide +kernel
theorem whichS_sR (i : Fin 32) : whichS (sR i) = none := by revert i; decide +kernel
theorem whichR_sR (i : Fin 32) : whichR (sR i) = some i := by revert i; decide +kernel
theorem whichR_sS (i : Fin 32) : whichR (sS i) = none := by revert i; decide +kernel

/-- The kernel's 64 transfer semaphores: side 0 the sending ones, side 1 the receiving ones. -/
abbrev osem (p : Fin 32 × Fin 2) : SemLoc sig := .dma (if p.2 = 0 then sS p.1 else sR p.1)

/-! ## Memrefs and chunks -/

abbrev xM : Memref sig .tc .vmem S1024x1024 .bf16 := Memref.whole cc0_stg0_0
abbrev oM : Memref sig .tc .vmem S4096x1024 .bf16 := Memref.whole cc0_stg1_0
abbrev aM : Memref sig .tc .vmem S1024x1024 .bf16 := Memref.whole cc0_scratch0
abbrev rM : Memref sig .tc .vmem S1024x1024 .bf16 := Memref.whole cc0_scratch1

theorem inb8 (k : Fin 8) : ∀ a, (![128 * k.val, 0] : Fin 2 → Nat) a + S128x1024.size a ≤ S1024x1024.size a := by
  revert k; decide
theorem inb32 (k : Fin 32) : ∀ a, (![128 * k.val, 0] : Fin 2 → Nat) a + S128x1024.size a ≤ S4096x1024.size a := by
  revert k; decide

/-- Chunk `k` of a 1024-row buffer; of a 4096-row buffer. -/
abbrev rc8 (k : Fin 8) : Rect S1024x1024 := Rect.unit (s := S1024x1024) ![128 * k.val, 0] S128x1024.size (inb8 k)
abbrev rc32 (k : Fin 32) : Rect S4096x1024 := Rect.unit (s := S4096x1024) ![128 * k.val, 0] S128x1024.size (inb32 k)
abbrev ck8 (m : Memref sig .tc .vmem S1024x1024 .bf16) (k : Fin 8) : Memref sig .tc .vmem S128x1024 .bf16 :=
  m.slice (rc8 k) (fun _ => rfl)
abbrev ck32 (m : Memref sig .tc .vmem S4096x1024 .bf16) (k : Fin 32) : Memref sig .tc .vmem S128x1024 .bf16 :=
  m.slice (rc32 k) (fun _ => rfl)

/-- What one transfer credits. -/
abbrev N : ℕ := (ck8 aM 0).view.dmaCredit
theorem N_pos : 0 < N := View.dmaCredit_pos _ (by decide)

/-! ## Which chunk lands where -/

/-- The chunk of the receiver's result that transfer `i` (not a p1) lands in. -/
def landCk (i : Fin 32) (c : Dev nD) : Fin 32 :=
  let x := c.val / 4
  let y := c.val / 2 % 2
  let z := c.val % 2
  Fin.ofNat 32 <|
    if i.val < 16 then 8 * (2 * (1 - x) + z) + (i.val - 8)
    else if i.val < 22 then 8 * (2 * x + (1 - z)) + (i.val - 16) + 2 * y
    else if i.val < 24 then 8 * (2 * x + (1 - z)) + (i.val - 22) + 6 * (1 - y)
    else if i.val < 27 then 8 * (2 * (1 - x) + (1 - z)) + 2 + (i.val - 24)
    else 8 * (2 * (1 - x) + (1 - z)) + (if i.val < 29 then i.val - 27 else i.val - 24)

/-- A device's own quarter of the rows, chunk `k` of it. -/
def ownCk (c : Dev nD) (k : Fin 8) : Fin 32 := Fin.ofNat 32 (8 * (2 * (c.val / 4) + c.val % 2) + k.val)

/-- The number of the piece transfer `i` reads on a device at place `y` along y: a chunk, or a landing it passes on. -/
def srcIy (i : Fin 32) (y : ℕ) : Fin 56 :=
  Fin.ofNat 56 <|
    if i.val < 8 then 32 + i.val
    else if i.val < 16 then 40 + (i.val - 8)
    else if i.val < 22 then 48 + (i.val - 16) + 2 * y
    else if i.val < 24 then 16 + (i.val - 22) + 4 * y
    else if i.val < 27 then 16 + (i.val - 24) + 2 * (1 - y)
    else 8 + (if i.val < 29 then i.val - 27 else i.val - 24)
abbrev srcIx (i : Fin 32) (c : Dev nD) : Fin 56 := srcIy i (c.val / 2 % 2)

/-! ## Contents -/

section Contents

/- `X c` is the quarter device `c` works on of its own shard; every other content is computed from these. -/
variable (X : Dev nD → S1024x1024.Idx → Elt F .bf16)

/-- The reduced quarter: the own one plus the one that came along y. -/
def rV (c : Dev nD) : S1024x1024.Idx → Elt F .bf16 := addf (F := F) (φ := .bf16) (X c) (X (pk 0 c))

/-- The device whose reduced quarter chunk `k` of device `c`'s result is. -/
def owner (c : Dev nD) (k : Fin 32) : Dev nD :=
  let x := c.val / 4
  let y := c.val / 2 % 2
  let z := c.val % 2
  let h := k.val / 8
  let j := k.val % 8
  let far : Bool := h = 2 * x + (1 - z) ∧ (if y = 0 then 6 ≤ j else j < 2)
  Fin.ofNat 8 (4 * (h / 2) + 2 * (if far then 1 - y else y) + h % 2)

/-- An index of the result: its chunk, and its place in its quarter. -/
def ckOf (i : S4096x1024.Idx) : Fin 32 := ⟨(i 0).val / 128, by have : (i 0).val < 4096 := (i 0).isLt; omega⟩
def inQ (i : S4096x1024.Idx) : S1024x1024.Idx :=
  Shape.pair (d := ![1024, 1024]) ⟨(i 0).val % 1024, Nat.mod_lt _ (by decide)⟩ ⟨(i 1).val, (i 1).isLt⟩

/-- Device `c`'s result. -/
def outV (c : Dev nD) : S4096x1024.Idx → Elt F .bf16 := fun i => rV X (owner c (ckOf i)) (inQ i)

end Contents

/-! ## Points-tos -/

abbrev xPt (q : PosShare TreeShare) (k : Fin 8) (c : Dev nD) (f : S1024x1024.Idx → Elt F .bf16) : sProp 𝕄 :=
  (ck8 xM k).view.loc (c : Thread nD τ) ↦[(ck8 xM k).view.set]{q} f
abbrev aPt (q : PosShare TreeShare) (k : Fin 8) (c : Dev nD) (f : S1024x1024.Idx → Elt F .bf16) : sProp 𝕄 :=
  (ck8 aM k).view.loc (c : Thread nD τ) ↦[(ck8 aM k).view.set]{q} f
abbrev rPt (q : PosShare TreeShare) (k : Fin 8) (c : Dev nD) (f : S1024x1024.Idx → Elt F .bf16) : sProp 𝕄 :=
  (ck8 rM k).view.loc (c : Thread nD τ) ↦[(ck8 rM k).view.set]{q} f
abbrev oPt (q : PosShare TreeShare) (k : Fin 32) (c : Dev nD) (f : S4096x1024.Idx → Elt F .bf16) : sProp 𝕄 :=
  (ck32 oM k).view.loc (c : Thread nD τ) ↦[(ck32 oM k).view.set]{q} f

/-- A p1 transfer's number as a chunk. -/
abbrev lo8 (i : ℕ) : Fin 8 := Fin.ofNat 8 i

/-- Where transfer `i` lands on receiver `c`, at contents not chosen; at the contents it brings. -/
def landAny (i : Fin 32) (c : Dev nD) : sProp 𝕄 :=
  iprop((if i.val < 8 then iprop(∃ f, aPt fullShare (lo8 i.val) c f) else iprop(∃ f, oPt fullShare (landCk i c) c f))
    ∗ reached ER (rCell i c) 0)
def land (X : Dev nD → S1024x1024.Idx → Elt F .bf16) (i : Fin 32) (c : Dev nD) : sProp 𝕄 :=
  if i.val < 8 then aPt fullShare (lo8 i.val) c (X (pk 0 c)) else oPt fullShare (landCk i c) c (outV X c)

/-- The pieces of memory transfers read: the 32 landings, then 8 chunks each of the own quarter (one half), of
    the reduced quarter (one half), of the reduced quarter (a quarter share). -/
def pcs (X : Dev nD → S1024x1024.Idx → Elt F .bf16) (c : Dev nD) (p : Fin 56) : sProp 𝕄 :=
  if p.val < 32 then land X (Fin.ofNat 32 p.val) c
  else if p.val < 40 then xPt fullShare.left (lo8 p.val) c (X c)
  else if p.val < 48 then rPt fullShare.left (lo8 p.val) c (rV X c)
  else rPt fullShare.right.left (lo8 p.val) c (rV X c)

/-! ## The schedule -/

section Sched

variable (X : Dev nD → S1024x1024.Idx → Elt F .bf16)

/-- What the partner along axis `d` hands over with its barrier signal: the landings of every transfer that goes to it. -/
def barPay (d : Fin 3) (c : Dev nD) : sProp 𝕄 :=
  bigSep Finset.univ fun i : Fin 32 => if kd i = d then landAny i (pk d c) else iprop(emp)

def dmaPay (s : DmaSem sig) (c : Dev nD) : sProp 𝕄 :=
  match whichS s with
  | some i => pcs X c (srcIx i c)
  | none => match whichR s with
    | some i => land X i c
    | none => iprop(emp)

/-- One round a cell: three unit duties on a barrier cell, one transfer's credit on a transfer cell. -/
def Rd : Rounds.Schedule (GSem nD τ sig) (Fin 3) 𝕄 where
  duties g r := if r = 0 ∧ g.1.2 = .tc then (match g.2 with | .reg s => if s = barS then Finset.univ else ∅ | .dma s => if 2 ≤ s.val then {0} else ∅) else ∅
  unitless _ := False
  amount g _ _ := match g.2 with | .reg _ => 1 | .dma _ => N
  payload g _ d := match g.2 with | .reg _ => barPay d g.1.1 | .dma s => dmaPay X s g.1.1
  amount_pos g _ _ _ := by
    rcases g with ⟨t, s | s⟩
    · exact Nat.one_pos
    · exact N_pos

instance landAny_storable (i : Fin 32) (c : Dev nD) : BI.Storable (upEmb : UEmb _ 𝕄) (landAny i c) := by
  unfold landAny; split <;> infer_instance
instance land_storable (i : Fin 32) (c : Dev nD) : BI.Storable (upEmb : UEmb _ 𝕄) (land X i c) := by
  unfold land; split <;> infer_instance
instance pcs_storable (c : Dev nD) (p : Fin 56) : BI.Storable (upEmb : UEmb _ 𝕄) (pcs X c p) := by
  unfold pcs; (repeat' split) <;> infer_instance
instance barPay_storable (d : Fin 3) (c : Dev nD) : BI.Storable (upEmb : UEmb _ 𝕄) (barPay d c) := by
  unfold barPay
  have : ∀ i : Fin 32, BI.Storable (upEmb : UEmb _ 𝕄) (if kd i = d then landAny i (pk d c) else iprop(emp)) := fun i => by
    split <;> infer_instance
  infer_instance
instance Rd_storable (g : GSem nD τ sig) (r : ℕ) (d : Fin 3) : BI.Storable (upEmb : UEmb _ 𝕄) ((Rd X).payload g r d) := by
  rcases g with ⟨t, s | s⟩
  · show BI.Storable (upEmb : UEmb _ 𝕄) (barPay d t.1); infer_instance
  · show BI.Storable (upEmb : UEmb _ 𝕄) (dmaPay X s t.1)
    unfold dmaPay; (repeat' split) <;> infer_instance

theorem two_le_sS (i : Fin 32) : 2 ≤ (sS i).val := by revert i; decide
theorem two_le_sR (i : Fin 32) : 2 ≤ (sR i).val := by revert i; decide

theorem duties_bar (c : Dev nD) : (Rd (F := F) X).duties (barCell c) 0 = Finset.univ := by
  dsimp only [Rd]; rw [if_pos ⟨rfl, rfl⟩, if_pos rfl]
theorem duties_s (i : Fin 32) (c : Dev nD) : (Rd (F := F) X).duties (sCell i c) 0 = {0} := by
  dsimp only [Rd]; rw [if_pos ⟨rfl, rfl⟩, if_pos (two_le_sS i)]
theorem duties_r (i : Fin 32) (c : Dev nD) : (Rd (F := F) X).duties (rCell i c) 0 = {0} := by
  dsimp only [Rd]; rw [if_pos ⟨rfl, rfl⟩, if_pos (two_le_sR i)]
theorem duties_later (g : GSem nD τ sig) : ∀ r, 1 ≤ r → (Rd (F := F) X).duties g r = ∅ :=
  fun r hr => by dsimp only [Rd]; rw [if_neg (fun h => by omega)]

theorem amount_s (i : Fin 32) (c : Dev nD) (d : Fin 3) : (Rd (F := F) X).amount (sCell i c) 0 d = N := rfl
theorem amount_r (i : Fin 32) (c : Dev nD) (d : Fin 3) : (Rd (F := F) X).amount (rCell i c) 0 d = N := rfl

theorem expect_bar (c : Dev nD) : (Rd (F := F) X).expect (barCell c) 0 = 3 := by
  unfold Schedule.expect Schedule.amountOf; rw [duties_bar]; rfl
theorem expect_s (i : Fin 32) (c : Dev nD) : (Rd (F := F) X).expect (sCell i c) 0 = N := by
  unfold Schedule.expect Schedule.amountOf; rw [duties_s, Finset.sum_singleton]; rfl
theorem expect_r (i : Fin 32) (c : Dev nD) : (Rd (F := F) X).expect (rCell i c) 0 = N := by
  unfold Schedule.expect Schedule.amountOf; rw [duties_r, Finset.sum_singleton]; rfl

theorem payload_bar (c : Dev nD) (d : Fin 3) : (Rd (F := F) X).payload (barCell c) 0 d = barPay d c := rfl
theorem payload_s (i : Fin 32) (c : Dev nD) (d : Fin 3) : (Rd (F := F) X).payload (sCell i c) 0 d = pcs X c (srcIx i c) := by
  show dmaPay X (sS i) c = _
  unfold dmaPay; rw [whichS_sS]
theorem payload_r (i : Fin 32) (c : Dev nD) (d : Fin 3) : (Rd (F := F) X).payload (rCell i c) 0 d = land X i c := by
  show dmaPay X (sR i) c = _
  unfold dmaPay; rw [whichS_sR, whichR_sR]

theorem rest_bar (c : Dev nD) : bigSep ((Rd (F := F) X).duties (barCell c) 0 \ ∅) (fun u => (Rd (F := F) X).payload (barCell c) 0 u)
    = bigSep Finset.univ fun d => barPay d c := by
  rw [Finset.sdiff_empty, duties_bar]; rfl
theorem rest_s (i : Fin 32) (c : Dev nD) : bigSep ((Rd (F := F) X).duties (sCell i c) 0 \ ∅) (fun u => (Rd (F := F) X).payload (sCell i c) 0 u)
    = pcs X c (srcIx i c) := by
  rw [Finset.sdiff_empty, duties_s, bigSep_singleton, payload_s]
theorem rest_r (i : Fin 32) (c : Dev nD) : bigSep ((Rd (F := F) X).duties (rCell i c) 0 \ ∅) (fun u => (Rd (F := F) X).payload (rCell i c) 0 u)
    = land X i c := by
  rw [Finset.sdiff_empty, duties_r, bigSep_singleton, payload_r]

end Sched

/-! ## Levels, and what a device owes -/

/-- A transfer's place in the order of waits. -/
def tlev (i : Fin 32) : ℕ := if i.val < 8 then 2 else if i.val < 16 then i.val - 5 else if i.val < 22 then 20 else 30

def L (g : GSem nD τ sig) : Finset Unit := if g.1.2 = .tc then {()} else ∅
/-- Barrier cells at 1, receiving cells at their transfer's level, the rest at 0. -/
def lv (g : GSem nD τ sig) (_ : Unit) : ℕ :=
  match g.2 with
  | .reg _ => 1
  | .dma s => match whichR s with
    | some i => tlev i
    | none => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_r (i : Fin 32) (c : Dev nD) (u : Unit) : lv (rCell i c) u = tlev i := by
  dsimp only [lv]; rw [whichR_sR]
theorem lv_s (i : Fin 32) (c : Dev nD) (u : Unit) : lv (sCell i c) u = 0 := by
  dsimp only [lv]; rw [whichR_sS]

/-- What is owed for the transfers in the set `S` (a bit mask) not yet sent. -/
def dueT (S : ℕ) (c : Dev nD) : CellTallies nD τ sig Unit :=
  ∑ i : Fin 32, if S.testBit i.val then tallyAt (rCell i (peer i c)) () N else 0
/-- All 32 transfers. -/
abbrev all32 : ℕ := 4294967295
/-- What is owed at launch: a unit to each partner's barrier, every transfer's credit. -/
def O₀ (c : Dev nD) : CellTallies nD τ sig Unit :=
  dueT all32 c + tallyAt (barCell (pk 2 c)) () 1 + tallyAt (barCell (pk 1 c)) () 1 + tallyAt (barCell (pk 0 c)) () 1

theorem dueT_zero (c : Dev nD) : dueT 0 c = 0 := by
  unfold dueT; exact Finset.sum_eq_zero fun i _ => by rw [Nat.zero_testBit]; rfl

theorem xor_bit (S : ℕ) (i j : ℕ) : (S ^^^ 2 ^ i).testBit j = if j = i then !S.testBit i else S.testBit j := by
  rw [Nat.testBit_xor, Nat.testBit_two_pow]
  by_cases h : i = j
  · subst h; simp
  · rw [if_neg (Ne.symm h)]; simp [h]

/-- Sending transfer `i` pays its part. -/
theorem dueT_send {S : ℕ} (i : Fin 32) (h : S.testBit i.val = true) (c : Dev nD) :
    dueT S c = dueT (S ^^^ 2 ^ i.val) c + tallyAt (rCell i (peer i c)) () N := by
  have e : ∀ f : Fin 32 → CellTallies nD τ sig Unit, ∑ j, f j = f i + ∑ j ∈ Finset.univ.erase i, f j :=
    fun f => (Finset.add_sum_erase _ f (Finset.mem_univ i)).symm
  unfold dueT
  rw [e, e (fun j : Fin 32 => if (S ^^^ 2 ^ i.val).testBit j.val then _ else _), if_pos h, xor_bit, if_pos rfl, h]
  rw [Finset.sum_congr rfl (g := fun j : Fin 32 => if S.testBit j.val then tallyAt (rCell j (peer j c)) () N else 0)
    (f := fun j : Fin 32 => if (S ^^^ 2 ^ i.val).testBit j.val then tallyAt (rCell j (peer j c)) () N else 0) fun j hj => by
      rw [xor_bit, if_neg fun e => Finset.ne_of_mem_erase hj (Fin.ext e)]]
  simp only [Bool.not_true, Bool.false_eq_true, if_false, zero_add]
  exact add_comm _ _

theorem dueT_pos {S : ℕ} {c : Dev nD} {g : GSem nD τ sig} {u : Unit} (h : 0 < dueT S c g u) :
    ∃ i : Fin 32, S.testBit i.val = true ∧ g = rCell i (peer i c) := by
  unfold dueT at h
  rw [Finset.sum_apply, Finsupp.finset_sum_apply] at h
  obtain ⟨i, -, hi⟩ := Finset.exists_ne_zero_of_sum_ne_zero (Nat.pos_iff_ne_zero.mp h)
  refine ⟨i, ?_⟩
  by_cases hb : S.testBit i.val = true
  · refine ⟨hb, ?_⟩
    rw [if_pos hb, tallyAt_apply] at hi
    by_contra hg
    exact hi (if_neg fun e => hg e.1)
  · rw [if_neg hb] at hi; exact absurd rfl hi

/-- A wait on a cell below every transfer still owed. -/
theorem mayWait (c : Dev nD) (sm : SemLoc sig) (S : ℕ)
    (h : ∀ i : Fin 32, S.testBit i.val = true → lv ((c : Thread nD τ), sm) () < tlev i) :
    (levAts L lv : sProp 𝕄) ⊢ MayWait (c : Thread nD τ) sm () (dueT S c) :=
  MayOwe.of_cut (L := L) (lev := lv) (lv ((c : Thread nD τ), sm) ())
    (fun p hp => by rw [Finset.mem_singleton.mp hp, L_tc]; exact Finset.mem_singleton_self _)
    (fun g u hg => by
      obtain ⟨i, -, rfl⟩ := dueT_pos hg
      rw [L_tc]; exact Finset.mem_singleton_self _)
    (fun p hp => by rw [Finset.mem_singleton.mp hp])
    (fun g u hg => by
      obtain ⟨i, hi, rfl⟩ := dueT_pos hg
      rw [lv_r]; exact h i hi)

end Cert.Proof.K

end
-- ==== Proof.Pieces.lean ====
/-
  What a chunk holds once it is written: a chunk of a result read back is the same chunk of the reduced quarter of
  the device it comes from, and each transfer lands its receiver's chunk at what the receiver's result is to hold.
-/
module

public import proofs.«01_k».proof.Proof.Common

@[expose] public section

noncomputable section

namespace Cert.Proof.K

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Slices at computed offsets -/

theorem ck8_eq (m : Memref sig .tc .vmem S1024x1024 .bf16) {o : Fin 2 → ℕ} {inb} {hs} (k : Fin 8) (ho : o = ![128 * k.val, 0]) :
    m.slice (Rect.unit (s := S1024x1024) o S128x1024.size inb) hs = ck8 m k := by subst ho; rfl
theorem ck32_eq (m : Memref sig .tc .vmem S4096x1024 .bf16) {o : Fin 2 → ℕ} {inb} {hs} (k : Fin 32) (ho : o = ![128 * k.val, 0]) :
    m.slice (Rect.unit (s := S4096x1024) o S128x1024.size inb) hs = ck32 m k := by subst ho; rfl
theorem rc8_eq {o : Fin 2 → ℕ} {inb} (k : Fin 8) (ho : o = ![128 * k.val, 0]) :
    Rect.unit (s := S1024x1024) o S128x1024.size inb = rc8 k := by subst ho; rfl
theorem rc32_eq {o : Fin 2 → ℕ} {inb} (k : Fin 32) (ho : o = ![128 * k.val, 0]) :
    Rect.unit (s := S4096x1024) o S128x1024.size inb = rc32 k := by subst ho; rfl

theorem credit8 (m : Memref sig .tc .vmem S1024x1024 .bf16) {o : Fin 2 → ℕ} {inb} {hs} :
    (m.slice (Rect.unit (s := S1024x1024) o S128x1024.size inb) hs).view.dmaCredit = N := rfl
theorem credit32 (m : Memref sig .tc .vmem S4096x1024 .bf16) {o : Fin 2 → ℕ} {inb} {hs} :
    (m.slice (Rect.unit (s := S4096x1024) o S128x1024.size inb) hs).view.dmaCredit = N := rfl

/-! ## Written chunks -/

/-- Elements written with what the view reads off `g` hold `g`. -/
theorem written_eq {t : Thread nD τ} {sp : Space} {s : Shape} {e : EltTy} (v : View sig t.2.kind sp s e) (q : PosShare TreeShare)
    (fd g : Buf (Elt F) (v.loc t)) (w : s.Idx → Elt F e) (h : w = v.read (Elt F) g) :
    (v.loc t ↦[v.set]{q} v.write (Elt F) fd w Finset.univ : sProp 𝕄) = v.loc t ↦[v.set]{q} g :=
  pointsTo_congr fun i hi => by
    subst h
    obtain ⟨x, -, rfl⟩ := Finset.mem_map.mp hi
    rw [View.write_emb_of_mem _ _ (Finset.mem_univ _), View.read_apply, cast_cast, cast_eq]

variable (X : Dev nD → S1024x1024.Idx → Elt F .bf16)

theorem ckOf_emb (k : Fin 32) (j : (rc32 k).shape.Idx) : ckOf ((rc32 k).emb j) = k := by
  apply Fin.ext
  show (128 * k.val + 1 * (j 0).val) / 128 = k.val
  have : (j 0).val < 128 := (j 0).isLt
  omega
theorem inQ_emb (k : Fin 32) (j : (rc32 k).shape.Idx) : inQ ((rc32 k).emb j) = (rc8 (lo8 k.val)).emb j := by
  funext a
  apply Fin.ext
  have h0 : (j 0).val < 128 := (j 0).isLt
  fin_cases a
  · show (128 * k.val + 1 * (j 0).val) % 1024 = 128 * (k.val % 8) + 1 * (j 0).val
    omega
  · rfl

/-- Chunk `k` of a result is chunk `k mod 8` of the reduced quarter of the device it comes from. -/
theorem read_out (c : Dev nD) (k : Fin 32) :
    (ck32 oM k).view.read (Elt F) (outV X c) = (ck8 rM (lo8 k.val)).view.read (Elt F) (rV X (owner c k)) := by
  funext j
  show outV X c ((rc32 k).emb j) = rV X (owner c k) ((rc8 (lo8 k.val)).emb j)
  unfold outV
  rw [ckOf_emb, inQ_emb]

/-! ## Where chunks come from -/

theorem owner_own (c : Dev nD) (k : Fin 8) : owner c (ownCk c k) = c := by revert c k; decide +kernel
theorem lo_own (c : Dev nD) (k : Fin 8) : lo8 (ownCk c k).val = k := by revert c k; decide +kernel
theorem owner_land (i : Fin 32) (h8 : 8 ≤ i.val) (h22 : i.val < 22) (c : Dev nD) : owner (peer i c) (landCk i (peer i c)) = c := by
  revert i c; decide +kernel
theorem lo_land (i : Fin 32) (h8 : 8 ≤ i.val) (h22 : i.val < 22) (c : Dev nD) :
    lo8 (landCk i (peer i c)).val = lo8 (srcIx i c).val := by
  revert i c; decide +kernel
theorem land_fwd (i : Fin 32) (h : 22 ≤ i.val) (c : Dev nD) :
    landCk i (peer i c) = landCk (Fin.ofNat 32 (srcIx i c).val) c := by
  revert i c; decide +kernel
theorem owner_fwd (i : Fin 32) (h : 22 ≤ i.val) (c : Dev nD) :
    owner (peer i c) (landCk i (peer i c)) = owner c (landCk i (peer i c)) := by
  revert i c; decide +kernel
theorem src_px (i : Fin 32) (h8 : 8 ≤ i.val) (h16 : i.val < 16) (c : Dev nD) : 40 ≤ (srcIx i c).val ∧ (srcIx i c).val < 48 := by
  revert i c; decide +kernel
theorem src_pz (i : Fin 32) (h16 : 16 ≤ i.val) (h22 : i.val < 22) (c : Dev nD) : 48 ≤ (srcIx i c).val := by
  revert i c; decide +kernel
theorem src_fwd (i : Fin 32) (h : 22 ≤ i.val) (c : Dev nD) : (srcIx i c).val < 32 ∧ 8 ≤ (srcIx i c).val := by
  revert i c; decide +kernel

theorem lo8_lt {n : ℕ} (h : n < 8) : (lo8 n).val = n := Nat.mod_eq_of_lt h

/-! ## The pieces by kind -/

theorem pcs_p1 (i : Fin 32) (h : i.val < 8) (c : Dev nD) : pcs X c (srcIx i c) = xPt fullShare.left (lo8 i.val) c (X c) := by
  have e : srcIx i c = ⟨32 + i.val, by omega⟩ := by revert i c; decide +kernel
  rw [e]; unfold pcs
  rw [if_neg (by show ¬ 32 + i.val < 32; omega), if_pos (by show 32 + i.val < 40; omega)]
  rw [show lo8 (32 + i.val) = lo8 i.val from Fin.ext (by show (32 + i.val) % 8 = i.val % 8; omega)]
theorem pcs_px (i : Fin 32) (h8 : 8 ≤ i.val) (h16 : i.val < 16) (c : Dev nD) :
    pcs X c (srcIx i c) = rPt fullShare.left (lo8 (srcIx i c).val) c (rV X c) := by
  have := src_px i h8 h16 c
  unfold pcs; rw [if_neg (by omega), if_neg (by omega), if_pos (by omega)]
theorem pcs_pz (i : Fin 32) (h16 : 16 ≤ i.val) (h22 : i.val < 22) (c : Dev nD) :
    pcs X c (srcIx i c) = rPt fullShare.right.left (lo8 (srcIx i c).val) c (rV X c) := by
  have := src_pz i h16 h22 c
  unfold pcs; rw [if_neg (by omega), if_neg (by omega), if_neg (by omega)]
theorem pcs_fwd (i : Fin 32) (h : 22 ≤ i.val) (c : Dev nD) :
    pcs X c (srcIx i c) = oPt fullShare (landCk i (peer i c)) c (outV X c) := by
  have h2 := src_fwd i h c
  unfold pcs; rw [if_pos h2.1]; unfold land
  rw [if_neg (by show ¬ (srcIx i c).val % 32 < 8; omega), land_fwd i h c]

/-! ## Landings -/

theorem land_p1 (i : Fin 32) (h : i.val < 8) (c : Dev nD) (fd : S1024x1024.Idx → Elt F .bf16) :
    aPt fullShare (lo8 i.val) (peer i c) ((ck8 aM (lo8 i.val)).view.write (Elt F) fd ((ck8 xM (lo8 i.val)).view.read (Elt F) (X c)) Finset.univ)
      = (land X i (peer i c) : sProp 𝕄) := by
  unfold land; rw [if_pos h]
  refine written_eq (t := (peer i c : Thread nD τ)) (ck8 aM (lo8 i.val)).view fullShare fd (X (pk 0 (peer i c))) _ ?_
  have : pk 0 (peer i c) = c := by
    rw [show peer i c = pk 0 c by unfold peer kd; rw [if_pos h]]; exact pk_pk 0 c
  rw [this]; rfl

theorem land_r (i : Fin 32) (h8 : 8 ≤ i.val) (h22 : i.val < 22) (c : Dev nD) (fd : S4096x1024.Idx → Elt F .bf16) :
    oPt fullShare (landCk i (peer i c)) (peer i c)
        ((ck32 oM (landCk i (peer i c))).view.write (Elt F) fd ((ck8 rM (lo8 (srcIx i c).val)).view.read (Elt F) (rV X c)) Finset.univ)
      = (land X i (peer i c) : sProp 𝕄) := by
  unfold land; rw [if_neg (by omega)]
  refine written_eq (t := (peer i c : Thread nD τ)) (ck32 oM (landCk i (peer i c))).view fullShare fd (outV X (peer i c)) _ ?_
  rw [read_out, owner_land i h8 h22, lo_land i h8 h22]

theorem land_f (i : Fin 32) (h : 22 ≤ i.val) (c : Dev nD) (fd : S4096x1024.Idx → Elt F .bf16) :
    oPt fullShare (landCk i (peer i c)) (peer i c)
        ((ck32 oM (landCk i (peer i c))).view.write (Elt F) fd ((ck32 oM (landCk i (peer i c))).view.read (Elt F) (outV X c)) Finset.univ)
      = (land X i (peer i c) : sProp 𝕄) := by
  unfold land; rw [if_neg (by omega)]
  refine written_eq (t := (peer i c : Thread nD τ)) (ck32 oM (landCk i (peer i c))).view fullShare fd (outV X (peer i c)) _ ?_
  rw [read_out, read_out, owner_fwd i h]

end Cert.Proof.K

end
-- ==== Proof.Steps.lean ====
/-
  One step of the body at a time.  What a device holds in the middle of the body is a table: for each of its 32
  transfers how far it is, for each chunk which share is at hand.  The table is nine bit masks, and each operation
  moves bits between them.
-/
module

public import proofs.«01_k».proof.Proof.Pieces

@[expose] public section

noncomputable section

namespace Cert.Proof.K

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

/-! ## Families under a mask -/

/-- The members of a family whose bit is set. -/
def fam {n : ℕ} (Φ : Fin n → sProp 𝕄) (m : ℕ) : sProp 𝕄 :=
  bigSep Finset.univ fun i : Fin n => if m.testBit i.val then Φ i else iprop(emp)

/-- The other members. -/
def rest {n : ℕ} (Φ : Fin n → sProp 𝕄) (m : ℕ) (i : Fin n) : sProp 𝕄 :=
  bigSep (Finset.univ.erase i) fun j : Fin n => if m.testBit j.val then Φ j else iprop(emp)

theorem fam_at {n : ℕ} (Φ : Fin n → sProp 𝕄) (m : ℕ) (i : Fin n) :
    fam Φ m = iprop((if m.testBit i.val then Φ i else iprop(emp)) ∗ rest Φ m i) := bigSep_univ_at _ i
theorem rest_flip {n : ℕ} (Φ : Fin n → sProp 𝕄) (m : ℕ) (i : Fin n) : rest Φ (m ^^^ 2 ^ i.val) i = rest Φ m i :=
  bigSep_congr fun j hj => by rw [xor_bit, if_neg fun e => Finset.ne_of_mem_erase hj (Fin.ext e)]

/-- A member is taken out. -/
theorem fam_take {n : ℕ} (Φ : Fin n → sProp 𝕄) {m : ℕ} (i : Fin n) (h : m.testBit i.val = true) :
    fam Φ m ⊢ iprop(Φ i ∗ fam Φ (m ^^^ 2 ^ i.val)) := by
  rw [fam_at Φ m i, if_pos h, fam_at Φ (m ^^^ 2 ^ i.val) i, xor_bit, if_pos rfl, h, if_neg (by simp), rest_flip]
  exact sep_mono_right (emp_sep (PROP := sProp 𝕄)).2

/-- A member is put in. -/
theorem fam_put {n : ℕ} (Φ : Fin n → sProp 𝕄) {m : ℕ} (i : Fin n) (h : m.testBit i.val = false) :
    iprop(Φ i ∗ fam Φ m) ⊢ fam Φ (m ^^^ 2 ^ i.val) := by
  rw [fam_at Φ m i, h, if_neg (by simp), fam_at Φ (m ^^^ 2 ^ i.val) i, xor_bit, if_pos rfl, h, if_pos (by simp), rest_flip]
  exact sep_mono_right (emp_sep (PROP := sProp 𝕄)).1

/-! ## The state -/

/-- The barrier cells; the transfer cells. -/
def barCells : Finset (GSem nD τ sig) := Finset.univ.image fun c : Dev nD => barCell c
def scCells : Finset (GSem nD τ sig) :=
  Finset.univ.image fun p : Dev nD × (Fin 32 × Fin 2) => ((p.1 : Thread nD τ), osem p.2)

theorem bar_mem (c : Dev nD) : barCell c ∈ barCells ∪ scCells :=
  Finset.mem_union_left _ (Finset.mem_image_of_mem _ (Finset.mem_univ c))
theorem s_mem (i : Fin 32) (c : Dev nD) : sCell i c ∈ barCells ∪ scCells :=
  Finset.mem_union_right _ (Finset.mem_image_of_mem (fun p : Dev nD × (Fin 32 × Fin 2) => ((p.1 : Thread nD τ), osem p.2)) (Finset.mem_univ (c, (i, 0))))
theorem r_mem (i : Fin 32) (c : Dev nD) : rCell i c ∈ barCells ∪ scCells :=
  Finset.mem_union_right _ (Finset.mem_image_of_mem (fun p : Dev nD × (Fin 32 × Fin 2) => ((p.1 : Thread nD τ), osem p.2)) (Finset.mem_univ (c, (i, 1))))

variable (X : Dev nD → S1024x1024.Idx → Elt F .bf16) (κ : GSem nD τ sig → ℕ)

/-- Every cell's invariant, kept folded: the cells are many. -/
theorem invs_exists : ∃ I : sProp 𝕄, I = bigSep (barCells ∪ scCells) fun g => cellInv ER (Rd X) (κ g) g := ⟨_, rfl⟩
def invs : sProp 𝕄 := Classical.choose (invs_exists X κ)
theorem invs_eq : invs X κ = bigSep (barCells ∪ scCells) fun g => cellInv ER (Rd X) (κ g) g := Classical.choose_spec (invs_exists X κ)
theorem invs_at {g : GSem nD τ sig} (h : g ∈ barCells ∪ scCells) : invs X κ ⊢ cellInv ER (Rd X) (κ g) g := by
  rw [invs_eq]; exact bigSep_elim h
instance invs_persistent : Persistent (invs X κ) := by rw [invs_eq]; infer_instance

/-- The masks: transfers unsent, in flight, with the send waited for; not received, received; pieces at hand;
    reduced chunks not yet and already computed; own chunks of the result not yet and already stored. -/
structure Masks where
  S : ℕ
  D : ℕ
  E : ℕ
  R : ℕ
  G : ℕ
  P : ℕ
  U : ℕ
  K : ℕ
  V : ℕ
  O : ℕ

/-- A transfer not sent; in flight; its send waited for. -/
def ready (c : Dev nD) (i : Fin 32) : sProp 𝕄 :=
  iprop(dutyTok ER (sCell i c) 0 0 ∗ dutyTok ER (rCell i (peer i c)) 0 0 ∗ landAny i (peer i c)
    ∗ reached ER (sCell i c) 0 ∗ atPos ER (sCell i c) 0 ∅ 0)
def flight (c : Dev nD) (i : Fin 32) : sProp 𝕄 := iprop(cred (tallyAt (sCell i c) () N) ∗ atPos ER (sCell i c) 0 ∅ 0)
def sdone (c : Dev nD) (i : Fin 32) : sProp 𝕄 := atPos ER (sCell i c) (0 + 1) ∅ 0
/-- A transfer not received; received. -/
def due (c : Dev nD) (i : Fin 32) : sProp 𝕄 := iprop(cred (tallyAt (rCell i c) () N) ∗ atPos ER (rCell i c) 0 ∅ 0)
def rdone (c : Dev nD) (i : Fin 32) : sProp 𝕄 := atPos ER (rCell i c) (0 + 1) ∅ 0
/-- A reduced chunk before it is computed; the share that stays after. -/
def rAny (c : Dev nD) (k : Fin 8) : sProp 𝕄 := iprop(∃ f, rPt fullShare k c f)
def rKeep (c : Dev nD) (k : Fin 8) : sProp 𝕄 := rPt fullShare.right.right k c (rV X c)
/-- An own chunk of the result before it is stored; after. -/
def oAny (c : Dev nD) (k : Fin 8) : sProp 𝕄 := iprop(∃ f, oPt fullShare (ownCk c k) c f)
def own (c : Dev nD) (k : Fin 8) : sProp 𝕄 := oPt fullShare (ownCk c k) c (outV X c)
/-- The share of the input that stays. -/
def xKeep (c : Dev nD) (k : Fin 8) : sProp 𝕄 := xPt fullShare.right k c (X c)

/-- What device `c` holds in the middle of the body. -/
def St (c : Dev nD) (s : Masks) : sProp 𝕄 :=
  iprop(levAts L lv ∗ invs X κ ∗ (∃ W, owes (c : Thread nD τ) (dueT s.S c) W)
    ∗ fam (ready c) s.S ∗ fam (flight c) s.D ∗ fam (sdone c) s.E
    ∗ fam (due c) s.R ∗ fam (rdone c) s.G ∗ fam (pcs X c) s.P
    ∗ fam (rAny c) s.U ∗ fam (rKeep X c) s.K ∗ fam (oAny c) s.V ∗ fam (own X c) s.O
    ∗ fam (xKeep X c) 255 ∗ atPos ER (barCell c) (0 + 1) ∅ 0)

/-! ## How the masks move -/

namespace Masks

/-- A device at place `y` along y sends transfer `i`. -/
def send (s : Masks) (y : ℕ) (i : Fin 32) : Masks :=
  { s with S := s.S ^^^ 2 ^ i.val, D := s.D ^^^ 2 ^ i.val, P := s.P ^^^ 2 ^ (srcIy i y).val }
def canSend (s : Masks) (y : ℕ) (i : Fin 32) : Bool :=
  s.S.testBit i.val && !s.D.testBit i.val && s.P.testBit (srcIy i y).val
/-- It waits for transfer `i`'s source to be read. -/
def sent (s : Masks) (y : ℕ) (i : Fin 32) : Masks :=
  { s with D := s.D ^^^ 2 ^ i.val, E := s.E ^^^ 2 ^ i.val, P := s.P ^^^ 2 ^ (srcIy i y).val }
def canSent (s : Masks) (y : ℕ) (i : Fin 32) : Bool :=
  s.D.testBit i.val && !s.E.testBit i.val && !s.P.testBit (srcIy i y).val && s.S == 0
/-- It waits for transfer `i` to land. -/
def recv (s : Masks) (i : Fin 32) : Masks :=
  { s with R := s.R ^^^ 2 ^ i.val, G := s.G ^^^ 2 ^ i.val, P := s.P ^^^ 2 ^ i.val }
def canRecv (s : Masks) (i : Fin 32) : Bool :=
  s.R.testBit i.val && !s.G.testBit i.val && !s.P.testBit i.val
    && decide (∀ j : Fin 32, s.S.testBit j.val = true → tlev i < tlev j)
/-- It computes reduced chunk `k`. -/
def reduce (s : Masks) (k : Fin 8) : Masks :=
  { s with U := s.U ^^^ 2 ^ k.val, K := s.K ^^^ 2 ^ k.val, P := (s.P ^^^ 2 ^ (40 + k.val)) ^^^ 2 ^ (48 + k.val) }
def canReduce (s : Masks) (k : Fin 8) : Bool :=
  s.U.testBit k.val && !s.K.testBit k.val && !s.P.testBit (40 + k.val) && !(s.P ^^^ 2 ^ (40 + k.val)).testBit (48 + k.val)
/-- It stores own chunk `k` of the result. -/
def keep (s : Masks) (k : Fin 8) : Masks := { s with V := s.V ^^^ 2 ^ k.val, O := s.O ^^^ 2 ^ k.val }
def canKeep (s : Masks) (k : Fin 8) : Bool := s.V.testBit k.val && !s.O.testBit k.val

end Masks

/-! ## Steps

Each step first for any goal `A` its rule leads to from `B`, then at the operation. -/

variable {c : Dev nD} {s : Masks}

theorem send_core {A B : sProp 𝕄} (i : Fin 32) (hok : s.canSend (c.val / 2 % 2) i = true) {src dst : sProp 𝕄}
    (hsrc : src = pcs X c (srcIx i c))
    (hdst : (landAny i (peer i c) : sProp 𝕄) ⊢ iprop(dst ∗ reached ER (rCell i (peer i c)) 0))
    (hrule : ∀ W, iprop(cellInv ER (Rd X) (κ (sCell i c)) (sCell i c) ∗ cellInv ER (Rd X) (κ (rCell i (peer i c))) (rCell i (peer i c))
        ∗ src ∗ dst ∗ owes (c : Thread nD τ) (dueT s.S c) W
        ∗ dutyTok ER (sCell i c) 0 0 ∗ reached ER (sCell i c) 0
        ∗ dutyTok ER (rCell i (peer i c)) 0 0 ∗ reached ER (rCell i (peer i c)) 0)
      ⊢ iprop(((cred (tallyAt (sCell i c) () N) ∗ owes (c : Thread nD τ) (dueT (s.S ^^^ 2 ^ i.val) c) W) -∗ B) -∗ A))
    (h : St X κ c (s.send (c.val / 2 % 2) i) ⊢ B) : St X κ c s ⊢ A := by
  unfold Masks.canSend at hok
  simp only [Bool.and_eq_true, Bool.not_eq_true'] at hok
  obtain ⟨⟨hS, hD⟩, hP⟩ := hok
  unfold St
  iintro ⟨#Hl, #Hi, ⟨%W, HO⟩, HS, HD, HE, HR, HG, HP, HU, HK, HV, HOo, HX, HB⟩
  ihave HS := (fam_take (ready c) i hS) $$ HS
  icases HS with ⟨Hr, HS⟩
  ihave HP := (fam_take (pcs X c) (srcIx i c) hP) $$ HP
  icases HP with ⟨Hp, HP⟩
  unfold ready
  icases Hr with ⟨HtS, HtR, Hla, #HrS, HaS⟩
  ihave Hla := hdst $$ Hla
  icases Hla with ⟨Hd, #HrR⟩
  ihave #Hi1 := (invs_at X κ (s_mem i c)) $$ Hi
  ihave #Hi2 := (invs_at X κ (r_mem i (peer i c))) $$ Hi
  ihave Hp := (Entails.of_eq hsrc.symm) $$ Hp
  iapply (hrule W) $$ [Hp Hd HO HtS HtR]
  · isplitr; · iexact Hi1
    isplitr; · iexact Hi2
    isplitl [Hp]; · iexact Hp
    isplitl [Hd]; · iexact Hd
    isplitl [HO]; · iexact HO
    isplitl [HtS]; · iexact HtS
    isplitr; · iexact HrS
    isplitl [HtR]; · iexact HtR
    iexact HrR
  iintro ⟨Hc, HO⟩
  iapply h
  unfold St
  isplitr; · iexact Hl
  isplitr; · iexact Hi
  isplitl [HO]; · iexists W; iexact HO
  isplitl [HS]; · iexact HS
  isplitl [HD Hc HaS]
  · iapply (fam_put (flight c) i hD)
    unfold flight
    isplitl [Hc HaS]
    · isplitl [Hc]; · iexact Hc
      iexact HaS
    iexact HD
  isplitl [HE]; · iexact HE
  isplitl [HR]; · iexact HR
  isplitl [HG]; · iexact HG
  isplitl [HP]; · iexact HP
  isplitl [HU]; · iexact HU
  isplitl [HK]; · iexact HK
  isplitl [HV]; · iexact HV
  isplitl [HOo]; · iexact HOo
  isplitl [HX]; · iexact HX
  iexact HB

theorem recv_core {A B : sProp 𝕄} (i : Fin 32) (hok : s.canRecv i = true)
    (hrule : ∀ W, iprop(cellInv ER (Rd X) (κ (rCell i c)) (rCell i c) ∗ cred (tallyAt (rCell i c) () N) ∗ owes (c : Thread nD τ) (dueT s.S c) W
        ∗ MayWait (c : Thread nD τ) (.dma (sR i)) () (dueT s.S c) ∗ atPos ER (rCell i c) 0 ∅ 0)
      ⊢ iprop(((∃ W', owes (c : Thread nD τ) (dueT s.S c) W') ∗ atPos ER (rCell i c) (0 + 1) ∅ 0 ∗ land X i c -∗ B) -∗ A))
    (h : St X κ c (s.recv i) ⊢ B) : St X κ c s ⊢ A := by
  unfold Masks.canRecv at hok
  simp only [Bool.and_eq_true, Bool.not_eq_true', decide_eq_true_eq] at hok
  obtain ⟨⟨⟨hR, hG⟩, hP⟩, hl⟩ := hok
  have e : pcs X c (⟨i.val, by omega⟩ : Fin 56) = (land X i c : sProp 𝕄) := by
    unfold pcs; rw [if_pos i.isLt]; congr 1; exact Fin.ext (Nat.mod_eq_of_lt i.isLt)
  unfold St
  iintro ⟨#Hl, #Hi, ⟨%W, HO⟩, HS, HD, HE, HR, HG, HP, HU, HK, HV, HOo, HX, HB⟩
  ihave HR := (fam_take (due c) i hR) $$ HR
  icases HR with ⟨Hr, HR⟩
  unfold due
  icases Hr with ⟨Hc, Ha⟩
  ihave #Hi1 := (invs_at X κ (r_mem i c)) $$ Hi
  iapply (hrule W) $$ [Hc HO Ha]
  · isplitr; · iexact Hi1
    isplitl [Hc]; · iexact Hc
    isplitl [HO]; · iexact HO
    isplitr
    · iapply (mayWait c (.dma (sR i)) s.S fun j hj => by rw [lv_r]; exact hl j hj); iexact Hl
    iexact Ha
  iintro ⟨HO, Ha, Hp⟩
  ihave Hp := (Entails.of_eq e.symm) $$ Hp
  iapply h
  unfold St
  isplitr; · iexact Hl
  isplitr; · iexact Hi
  isplitl [HO]; · iexact HO
  isplitl [HS]; · iexact HS
  isplitl [HD]; · iexact HD
  isplitl [HE]; · iexact HE
  isplitl [HR]; · iexact HR
  isplitl [HG Ha]
  · iapply (fam_put (rdone c) i hG)
    unfold rdone
    isplitl [Ha]; · iexact Ha
    iexact HG
  isplitl [HP Hp]
  · iapply (fam_put (pcs X c) (⟨i.val, by omega⟩ : Fin 56) hP)
    isplitl [Hp]; · iexact Hp
    iexact HP
  isplitl [HU]; · iexact HU
  isplitl [HK]; · iexact HK
  isplitl [HV]; · iexact HV
  isplitl [HOo]; · iexact HOo
  isplitl [HX]; · iexact HX
  iexact HB

theorem sent_core {A B : sProp 𝕄} (i : Fin 32) (hok : s.canSent (c.val / 2 % 2) i = true)
    (hrule : ∀ W, iprop(cellInv ER (Rd X) (κ (sCell i c)) (sCell i c) ∗ cred (tallyAt (sCell i c) () N) ∗ owes (c : Thread nD τ) (dueT s.S c) W
        ∗ MayWait (c : Thread nD τ) (.dma (sS i)) () (dueT s.S c) ∗ atPos ER (sCell i c) 0 ∅ 0)
      ⊢ iprop(((∃ W', owes (c : Thread nD τ) (dueT s.S c) W') ∗ atPos ER (sCell i c) (0 + 1) ∅ 0 ∗ pcs X c (srcIx i c) -∗ B) -∗ A))
    (h : St X κ c (s.sent (c.val / 2 % 2) i) ⊢ B) : St X κ c s ⊢ A := by
  unfold Masks.canSent at hok
  simp only [Bool.and_eq_true, Bool.not_eq_true', beq_iff_eq] at hok
  obtain ⟨⟨⟨hD, hE⟩, hP⟩, hz⟩ := hok
  unfold St
  iintro ⟨#Hl, #Hi, ⟨%W, HO⟩, HS, HD, HE, HR, HG, HP, HU, HK, HV, HOo, HX, HB⟩
  ihave HD := (fam_take (flight c) i hD) $$ HD
  icases HD with ⟨Hr, HD⟩
  unfold flight
  icases Hr with ⟨Hc, Ha⟩
  ihave #Hi1 := (invs_at X κ (s_mem i c)) $$ Hi
  iapply (hrule W) $$ [Hc HO Ha]
  · isplitr; · iexact Hi1
    isplitl [Hc]; · iexact Hc
    isplitl [HO]; · iexact HO
    isplitr
    · iapply (mayWait c (.dma (sS i)) s.S fun j hj => by rw [hz, Nat.zero_testBit] at hj; exact absurd hj (by decide)); iexact Hl
    iexact Ha
  iintro ⟨HO, Ha, Hp⟩
  iapply h
  unfold St
  isplitr; · iexact Hl
  isplitr; · iexact Hi
  isplitl [HO]; · iexact HO
  isplitl [HS]; · iexact HS
  isplitl [HD]; · iexact HD
  isplitl [HE Ha]
  · iapply (fam_put (sdone c) i hE)
    unfold sdone
    isplitl [Ha]; · iexact Ha
    iexact HE
  isplitl [HR]; · iexact HR
  isplitl [HG]; · iexact HG
  isplitl [HP Hp]
  · iapply (fam_put (pcs X c) (srcIx i c) hP)
    isplitl [Hp]; · iexact Hp
    iexact HP
  isplitl [HU]; · iexact HU
  isplitl [HK]; · iexact HK
  isplitl [HV]; · iexact HV
  isplitl [HOo]; · iexact HOo
  isplitl [HX]; · iexact HX
  iexact HB

/-! ### Memory at hand -/

theorem fam_borrow {n : ℕ} (Φ : Fin n → sProp 𝕄) {m : ℕ} (i : Fin n) (h : m.testBit i.val = true) :
    fam Φ m ⊢ iprop(Φ i ∗ (Φ i -∗ fam Φ m)) := by
  have e : (m ^^^ 2 ^ i.val) ^^^ 2 ^ i.val = m := by rw [Nat.xor_assoc, Nat.xor_self, Nat.xor_zero]
  have hp := fam_put Φ (m := m ^^^ 2 ^ i.val) i (by rw [xor_bit, if_pos rfl, h]; rfl)
  rw [e] at hp
  iintro H
  ihave H := (fam_take Φ i h) $$ H
  icases H with ⟨Hi, H⟩
  isplitl [Hi]; · iexact Hi
  iintro Hi
  iapply hp
  isplitl [Hi]; · iexact Hi
  iexact H

/-- The kept share of chunk `k` of the input, lent. -/
theorem at_x (k : Fin 8) (h : (255 : ℕ).testBit k.val = true) : St X κ c s ⊢ iprop(xKeep X c k ∗ (xKeep X c k -∗ St X κ c s)) := by
  unfold St
  iintro ⟨Hl, Hi, HO, HS, HD, HE, HR, HG, HP, HU, HK, HV, HOo, HX, HB⟩
  ihave HX := (fam_borrow (xKeep X c) k h) $$ HX
  icases HX with ⟨Hk, HX⟩
  isplitl [Hk]; · iexact Hk
  iintro Hk
  ihave HX := HX $$ Hk
  iframe

/-- A piece at hand, lent. -/
theorem at_p (k : Fin 56) (h : s.P.testBit k.val = true) : St X κ c s ⊢ iprop(pcs X c k ∗ (pcs X c k -∗ St X κ c s)) := by
  unfold St
  iintro ⟨Hl, Hi, HO, HS, HD, HE, HR, HG, HP, HU, HK, HV, HOo, HX, HB⟩
  ihave HP := (fam_borrow (pcs X c) k h) $$ HP
  icases HP with ⟨Hk, HP⟩
  isplitl [Hk]; · iexact Hk
  iintro Hk
  ihave HP := HP $$ Hk
  iframe

/-- The kept share of a reduced chunk, lent. -/
theorem at_k (k : Fin 8) (h : s.K.testBit k.val = true) : St X κ c s ⊢ iprop(rKeep X c k ∗ (rKeep X c k -∗ St X κ c s)) := by
  unfold St
  iintro ⟨Hl, Hi, HO, HS, HD, HE, HR, HG, HP, HU, HK, HV, HOo, HX, HB⟩
  ihave HK := (fam_borrow (rKeep X c) k h) $$ HK
  icases HK with ⟨Hk, HK⟩
  isplitl [Hk]; · iexact Hk
  iintro Hk
  ihave HK := HK $$ Hk
  iframe

/-- A chunk still to be reduced, lent. -/
theorem at_u (k : Fin 8) (h : s.U.testBit k.val = true) : St X κ c s ⊢ iprop(rAny c k ∗ (rAny c k -∗ St X κ c s)) := by
  unfold St
  iintro ⟨Hl, Hi, HO, HS, HD, HE, HR, HG, HP, HU, HK, HV, HOo, HX, HB⟩
  ihave HU := (fam_borrow (rAny c) k h) $$ HU
  icases HU with ⟨Hk, HU⟩
  isplitl [Hk]; · iexact Hk
  iintro Hk
  ihave HU := HU $$ Hk
  iframe

/-- An own chunk still to be stored, lent. -/
theorem at_v (k : Fin 8) (h : s.V.testBit k.val = true) : St X κ c s ⊢ iprop(oAny c k ∗ (oAny c k -∗ St X κ c s)) := by
  unfold St
  iintro ⟨Hl, Hi, HO, HS, HD, HE, HR, HG, HP, HU, HK, HV, HOo, HX, HB⟩
  ihave HV := (fam_borrow (oAny c) k h) $$ HV
  icases HV with ⟨Hk, HV⟩
  isplitl [Hk]; · iexact Hk
  iintro Hk
  ihave HV := HV $$ Hk
  iframe

/-- A chunk still to be reduced, given up for the reduced one. -/
theorem put_r (k : Fin 8) (hok : s.canReduce k = true) :
    St X κ c s ⊢ iprop(rAny c k ∗ (rPt fullShare k c (rV X c) -∗ St X κ c (s.reduce k))) := by
  unfold Masks.canReduce at hok
  simp only [Bool.and_eq_true, Bool.not_eq_true'] at hok
  obtain ⟨⟨⟨hU, hK⟩, h1⟩, h2⟩ := hok
  have k8 := k.isLt
  have e1 : pcs X c (⟨40 + k.val, by omega⟩ : Fin 56) = (rPt fullShare.left k c (rV X c) : sProp 𝕄) := by
    unfold pcs
    rw [if_neg (by show ¬ 40 + k.val < 32; omega), if_neg (by show ¬ 40 + k.val < 40; omega), if_pos (by show 40 + k.val < 48; omega)]
    rw [show lo8 (40 + k.val) = k from Fin.ext (by show (40 + k.val) % 8 = k.val; omega)]
  have e2 : pcs X c (⟨48 + k.val, by omega⟩ : Fin 56) = (rPt fullShare.right.left k c (rV X c) : sProp 𝕄) := by
    unfold pcs
    rw [if_neg (by show ¬ 48 + k.val < 32; omega), if_neg (by show ¬ 48 + k.val < 40; omega), if_neg (by show ¬ 48 + k.val < 48; omega)]
    rw [show lo8 (48 + k.val) = k from Fin.ext (by show (48 + k.val) % 8 = k.val; omega)]
  have hs : (rPt fullShare k c (rV X c) : sProp 𝕄) ⊢ iprop(pcs X c (⟨40 + k.val, by omega⟩ : Fin 56)
      ∗ pcs X c (⟨48 + k.val, by omega⟩ : Fin 56) ∗ rKeep X c k) := by
    rw [e1, e2]; unfold rKeep
    exact (pointsTo_share (PosShare.mem_left_op_right fullShare)).1.trans
      (sep_mono_right (pointsTo_share (PosShare.mem_left_op_right fullShare.right)).1)
  unfold St
  iintro ⟨Hl, Hi, HO, HS, HD, HE, HR, HG, HP, HU, HK, HV, HOo, HX, HB⟩
  ihave HU := (fam_take (rAny c) k hU) $$ HU
  icases HU with ⟨Hk, HU⟩
  isplitl [Hk]; · iexact Hk
  iintro Hk
  ihave Hk := hs $$ Hk
  icases Hk with ⟨H1, H2, H3⟩
  ihave HP := (fam_put (pcs X c) (⟨40 + k.val, by omega⟩ : Fin 56) h1) $$ [H1 HP]
  · isplitl [H1]; · iexact H1
    iexact HP
  ihave HP := (fam_put (pcs X c) (⟨48 + k.val, by omega⟩ : Fin 56) h2) $$ [H2 HP]
  · isplitl [H2]; · iexact H2
    iexact HP
  ihave HK := (fam_put (rKeep X c) k hK) $$ [H3 HK]
  · isplitl [H3]; · iexact H3
    iexact HK
  unfold Masks.reduce
  iframe

/-- An own chunk still to be stored, given up for the stored one. -/
theorem put_o (k : Fin 8) (hok : s.canKeep k = true) :
    St X κ c s ⊢ iprop(oAny c k ∗ (own X c k -∗ St X κ c (s.keep k))) := by
  unfold Masks.canKeep at hok
  simp only [Bool.and_eq_true, Bool.not_eq_true'] at hok
  obtain ⟨hV, hO⟩ := hok
  unfold St
  iintro ⟨Hl, Hi, HO, HS, HD, HE, HR, HG, HP, HU, HK, HV, HOo, HX, HB⟩
  ihave HV := (fam_take (oAny c) k hV) $$ HV
  icases HV with ⟨Hk, HV⟩
  isplitl [Hk]; · iexact Hk
  iintro Hk
  ihave HOo := (fam_put (own X c) k hO) $$ [Hk HOo]
  · isplitl [Hk]; · iexact Hk
    iexact HOo
  unfold Masks.keep
  iframe

/-- What is lent is used. -/
theorem use {A B P P' S S' : sProp 𝕄} (hat : S ⊢ iprop(P ∗ (P' -∗ S'))) (hrule : P ⊢ iprop((P' -∗ B) -∗ A)) (h : S' ⊢ B) : S ⊢ A := by
  iintro H
  ihave H := hat $$ H
  icases H with ⟨HP, H⟩
  iapply hrule $$ HP
  iintro HP
  iapply h
  iapply H
  iexact HP

end Cert.Proof.K

end
-- ==== Proof.Ops.lean ====
/-
  The kernel's operations as moves of the table.
-/
module

public import proofs.«01_k».proof.Proof.Steps
public import Idealize.ShloMosaic.Lib.Pipeline.Value

@[expose] public section

noncomputable section

namespace Cert.Proof.K

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev WP {α : Type} (c : Dev nD) (p : Prog (TpuEff nD τ sig (Elt F) Λ₀ .tc) α) (Q : α → sProp 𝕄) : sProp 𝕄 :=
  wp frame (wpE defs₀ 𝒱₀ (c : Thread nD τ) none) Set.univ p Q

variable (X : Dev nD → S1024x1024.Idx → Elt F .bf16) (κ : GSem nD τ sig → ℕ)

/-! ## Sends -/

section Send

variable {c : Dev nD} {s : Masks}

/-- A send, whatever it reads and wherever it writes. -/
theorem step_send {α : Type} (i : Fin 32) {src dst : Memref sig .tc .vmem S128x1024 .bf16} {hsc : dst.view.ref.isScScratch = false}
    {hws : src.view.WordExact} {hwd : dst.view.WordExact}
    {hty : DmaTarget.Typed .vmem (.dma (sR i)) (.remote (p := .tc) (Dev.tc (peer i c)) dst (.dma (sS i)) hsc)}
    {q : PosShare TreeShare} {fs : Buf (Elt F) (src.view.loc (c : Thread nD τ))}
    (hok : s.canSend (c.val / 2 % 2) i = true)
    (hN : dst.view.dmaCredit = N)
    (hsrc : (src.view.loc (c : Thread nD τ) ↦[src.view.set]{q} fs : sProp 𝕄) = pcs X c (srcIx i c))
    (hdst : (landAny i (peer i c) : sProp 𝕄) ⊢ iprop((∃ fd, dst.view.loc (peer i c : Thread nD τ) ↦[dst.view.set]{fullShare} fd) ∗ reached ER (rCell i (peer i c)) 0))
    (hland : ∀ fd, (dst.view.loc (peer i c : Thread nD τ) ↦[dst.view.set]{fullShare} dst.view.write (Elt F) fd (src.view.read (Elt F) fs) Finset.univ : sProp 𝕄) = land X i (peer i c))
    {k : PUnit → Prog (TpuEff nD τ sig (Elt F) Λ₀ .tc) α} {Q : α → sProp 𝕄}
    (h : St X κ c (s.send (c.val / 2 % 2) i) ⊢ WP c (k ⟨⟩) Q) :
    St X κ c s ⊢ WP c (.op (.enqueueDma src (.remote (Dev.tc (peer i c)) dst (.dma (sS i)) hsc) (.dma (sR i)) hws hwd hty) k) Q := by
  have hS : s.S.testBit i.val = true := by
    unfold Masks.canSend at hok
    simp only [Bool.and_eq_true] at hok
    exact hok.1.1
  refine send_core X κ i hok hsrc hdst (fun W => ?_) h
  iintro ⟨#H1, #H2, Hp, ⟨%fd, Hd⟩, HO, HtS, #HrS, HtR, #HrR⟩ HB
  iapply (Rounds.wp_send_pointsTo 𝒱₀ ER (Rd X) (c : Thread nD τ) none (c' := (peer i c : Thread nD τ)) (src := src) (dst := dst)
      (sS := .dma (sS i)) (sem := .dma (sR i)) (q := q) (fs := fs) (κ₁ := κ (sCell i c)) (κ₂ := κ (rCell i (peer i c)))
      (r₁ := 0) (r₂ := 0) (d₁ := 0) (d₂ := 0) (fd := fd)
      (by rw [duties_s]; exact Finset.mem_singleton_self _) (by rw [duties_r]; exact Finset.mem_singleton_self _)
      () () N hN (amount_s X i c 0) (amount_r X i (peer i c) 0) (dueT (s.S ^^^ 2 ^ i.val) c) (dueT_send i hS c) (W := W)
      (by rw [payload_s, hsrc]) (by rw [payload_r, hland])) $$ [Hp Hd HO HtS HtR]
  · isplitr; · iexact H1
    isplitr; · iexact H2
    isplitl [Hp]; · iexact Hp
    isplitl [Hd]; · iexact Hd
    isplitl [HO]; · iexact HO
    isplitl [HtS]; · iexact HtS
    isplitr; · iexact HrS
    isplitl [HtR]; · iexact HtR
    iexact HrR
  iexact HB

variable {α : Type} {src dst : Memref sig .tc .vmem S128x1024 .bf16} {p : Dev nD} {sa sb : SemLoc sig}
  {hsc : dst.view.ref.isScScratch = false} {hws : src.view.WordExact} {hwd : dst.view.WordExact}
  {hty : DmaTarget.Typed .vmem sb (.remote (p := .tc) (Dev.tc p) dst sa hsc)}
  {k : PUnit → Prog (TpuEff nD τ sig (Elt F) Λ₀ .tc) α} {y : ℕ}

/-- A chunk of the input sent along y. -/
theorem step_p1 {Q : α → sProp 𝕄} (hy : c.val / 2 % 2 = y) (i : Fin 32) (hi : i.val < 8) (hp : p = peer i c)
    (hsrc : src = ck8 xM (lo8 i.val)) (hdst : dst = ck8 aM (lo8 i.val)) (hsa : sa = .dma (sS i)) (hsb : sb = .dma (sR i))
    (hok : s.canSend y i = true) (h : St X κ c (s.send y i) ⊢ WP c (k ⟨⟩) Q) :
    St X κ c s ⊢ WP c (.op (.enqueueDma src (.remote (Dev.tc p) dst sa hsc) sb hws hwd hty) k) Q := by
  subst hy hp hsrc hdst hsa hsb
  refine step_send X κ (src := ck8 xM (lo8 i.val)) (dst := ck8 aM (lo8 i.val)) (q := fullShare.left) (fs := X c) i hok (credit8 aM) (pcs_p1 X i hi c).symm ?_ (fun fd => land_p1 X i hi c fd) h
  unfold landAny; rw [if_pos hi]; exact .rfl

/-- A reduced chunk sent along x or z. -/
theorem step_r {Q : α → sProp 𝕄} (q : PosShare TreeShare) (hy : c.val / 2 % 2 = y) (i : Fin 32) (j : Fin 8) (hi : 8 ≤ i.val ∧ i.val < 22) (hp : p = peer i c)
    (hj : lo8 (srcIy i y).val = j)
    (hq : (if i.val < 16 then fullShare.left else fullShare.right.left) = q)
    (hsrc : src = ck8 rM j) (hdst : dst = ck32 oM (landCk i (peer i c))) (hsa : sa = .dma (sS i)) (hsb : sb = .dma (sR i))
    (hok : s.canSend y i = true) (h : St X κ c (s.send y i) ⊢ WP c (k ⟨⟩) Q) :
    St X κ c s ⊢ WP c (.op (.enqueueDma src (.remote (Dev.tc p) dst sa hsc) sb hws hwd hty) k) Q := by
  subst hy hj hp hsrc hdst hsa hsb hq
  refine step_send X κ (src := ck8 rM (lo8 (srcIx i c).val)) (dst := ck32 oM (landCk i (peer i c))) (q := if i.val < 16 then fullShare.left else fullShare.right.left) (fs := rV X c) i hok (credit32 oM) ?_ ?_
    (fun fd => land_r X i hi.1 hi.2 c fd) h
  · by_cases h16 : i.val < 16
    · rw [if_pos h16, pcs_px X i hi.1 h16]
    · rw [if_neg h16, pcs_pz X i (by omega) hi.2]
  · unfold landAny; rw [if_neg (by omega)]; exact .rfl

/-- A landed chunk passed on. -/
theorem step_f {Q : α → sProp 𝕄} (hy : c.val / 2 % 2 = y) (i : Fin 32) (hi : 22 ≤ i.val) (hp : p = peer i c)
    (hsrc : src = ck32 oM (landCk i (peer i c))) (hdst : dst = ck32 oM (landCk i (peer i c))) (hsa : sa = .dma (sS i)) (hsb : sb = .dma (sR i))
    (hok : s.canSend y i = true) (h : St X κ c (s.send y i) ⊢ WP c (k ⟨⟩) Q) :
    St X κ c s ⊢ WP c (.op (.enqueueDma src (.remote (Dev.tc p) dst sa hsc) sb hws hwd hty) k) Q := by
  subst hy hp hsrc hdst hsa hsb
  refine step_send X κ (src := ck32 oM (landCk i (peer i c))) (dst := ck32 oM (landCk i (peer i c))) (q := fullShare) (fs := outV X c) i hok (credit32 oM) (pcs_fwd X i hi c).symm ?_ (fun fd => land_f X i hi c fd) h
  unfold landAny; rw [if_neg (by omega)]; exact .rfl

end Send

/-! ## Waits -/

section Wait

variable {c : Dev nD} {s : Masks} {α : Type} {sp sp' : Space} {sh sh' : Shape} {e e' : EltTy} {sm : DmaSem sig}
  {src : Memref sig .tc sp sh e} {dst : Memref sig .tc sp' sh' e'} {hs : src.view.WordExact} {hd : dst.view.WordExact}
  {k : PUnit → Prog (TpuEff nD τ sig (Elt F) Λ₀ .tc) α}

theorem step_recv {Q : α → sProp 𝕄} (i : Fin 32) (hsm : sm = sR i) (hN : dst.view.dmaCredit = N) (hok : s.canRecv i = true)
    (h : St X κ c (s.recv i) ⊢ WP c (k ⟨⟩) Q) :
    St X κ c s ⊢ WP c (.op (.waitDma2 sm src dst hs hd) k) Q := by
  subst hsm
  refine recv_core X κ i hok (fun W => ?_) h
  iintro H HB
  iapply (Rounds.wp_wait_rest_token 𝒱₀ ER (Rd X) (c : Thread nD τ) none (κ := κ (rCell i c))
      (wpE_waitDma2_eq (src := src) (dst := dst) 𝒱₀ (c : Thread nD τ) none Set.univ) (Set.mem_univ _) () (O := dueT s.S c)
      (W := W) (R := 0) (m := 0) (T := ∅) ((Nat.zero_add _).trans (hN.trans (expect_r X i c).symm))) $$ [H]
  · rw [hN]; iexact H
  iintro ⟨HO, Ha, -, Hp⟩
  ihave Hp := (Entails.of_eq (rest_r X i c)) $$ Hp
  iapply HB
  isplitl [HO]; · iexists _; iexact HO
  isplitl [Ha]; · iexact Ha
  iexact Hp

theorem step_sent {Q : α → sProp 𝕄} {y : ℕ} (hy : c.val / 2 % 2 = y) (i : Fin 32) (hsm : sm = sS i) (hN : dst.view.dmaCredit = N) (hok : s.canSent y i = true)
    (h : St X κ c (s.sent y i) ⊢ WP c (k ⟨⟩) Q) :
    St X κ c s ⊢ WP c (.op (.waitDma2 sm src dst hs hd) k) Q := by
  subst hsm hy
  refine sent_core X κ i hok (fun W => ?_) h
  iintro H HB
  iapply (Rounds.wp_wait_rest_token 𝒱₀ ER (Rd X) (c : Thread nD τ) none (κ := κ (sCell i c))
      (wpE_waitDma2_eq (src := src) (dst := dst) 𝒱₀ (c : Thread nD τ) none Set.univ) (Set.mem_univ _) () (O := dueT s.S c)
      (W := W) (R := 0) (m := 0) (T := ∅) ((Nat.zero_add _).trans (hN.trans (expect_s X i c).symm))) $$ [H]
  · rw [hN]; iexact H
  iintro ⟨HO, Ha, -, Hp⟩
  ihave Hp := (Entails.of_eq (rest_s X i c)) $$ Hp
  iapply HB
  isplitl [HO]; · iexists _; iexact HO
  isplitl [Ha]; · iexact Ha
  iexact Hp

end Wait

/-! ## Loads and stores -/

section Mem

/-- What chunk `k` of the input, of what came along y, of the reduced quarter holds. -/
abbrev chX (c : Dev nD) (k : Fin 8) : Vec F S128x1024 .bf16 := (ck8 xM k).view.read (Elt F) (X c)
abbrev chA (c : Dev nD) (k : Fin 8) : Vec F S128x1024 .bf16 := (ck8 aM k).view.read (Elt F) (X (pk 0 c))
abbrev chR (c : Dev nD) (k : Fin 8) : Vec F S128x1024 .bf16 := (ck8 rM k).view.read (Elt F) (rV X c)

/-- The two halves of a chunk add up to the reduced chunk. -/
theorem sum_chunk (c : Dev nD) (k : Fin 8) {h h'} :
    shapeCast S128x1024 (addf (shapeCast S128x1024 (chX X c k) h) (chA X c k)) h' = chR X c k := by
  rw [shapeCast_self, shapeCast_self]; rfl

theorem bit255 (j : Fin 8) : (255 : ℕ).testBit j.val = true := by revert j; decide

variable {c : Dev nD} {s : Masks} {α : Type} {o : Fin 2 → ℕ}

section Load

variable {k : Vec F S128x1024 .bf16 → Prog (TpuEff nD τ sig (Elt F) Λ₀ .tc) α}

theorem step_load_x {Q : α → sProp 𝕄} (j : Fin 8) {inb hl} (ho : o = ![128 * j.val, 0]) (h : St X κ c s ⊢ WP c (k (chX X c j)) Q) :
    St X κ c s ⊢ WP c (.op (.load xM (Rect.unit (s := S1024x1024) o S128x1024.size inb).toLoadRect hl) k) Q := by
  subst ho
  exact use (at_x X κ j (bit255 j)) (wp_load_rect 𝒱₀ (c : Thread nD τ) none Set.univ subset_rfl) h

theorem step_load_a {Q : α → sProp 𝕄} (j : Fin 8) {inb hl} (ho : o = ![128 * j.val, 0]) (hok : s.P.testBit j.val = true)
    (h : St X κ c s ⊢ WP c (k (chA X c j)) Q) :
    St X κ c s ⊢ WP c (.op (.load aM (Rect.unit (s := S1024x1024) o S128x1024.size inb).toLoadRect hl) k) Q := by
  subst ho
  have hj := j.isLt
  have e : pcs X c (⟨j.val, by omega⟩ : Fin 56) = (aPt fullShare j c (X (pk 0 c)) : sProp 𝕄) := by
    unfold pcs; rw [if_pos (by show j.val < 32; omega)]; unfold land
    have e1 : (Fin.ofNat 32 j.val).val = j.val := Nat.mod_eq_of_lt (by omega)
    show (if (Fin.ofNat 32 j.val).val < 8 then aPt fullShare (lo8 (Fin.ofNat 32 j.val).val) c (X (pk 0 c)) else _) = _
    rw [e1, if_pos hj, show lo8 j.val = j from Fin.ext (Nat.mod_eq_of_lt hj)]
  refine use (at_p X κ (⟨j.val, by omega⟩ : Fin 56) hok) ?_ h
  rw [e]
  exact wp_load_rect 𝒱₀ (c : Thread nD τ) none Set.univ subset_rfl

theorem step_load_r {Q : α → sProp 𝕄} (j : Fin 8) {inb hl} (ho : o = ![128 * j.val, 0]) (hok : s.K.testBit j.val = true)
    (h : St X κ c s ⊢ WP c (k (chR X c j)) Q) :
    St X κ c s ⊢ WP c (.op (.load rM (Rect.unit (s := S1024x1024) o S128x1024.size inb).toLoadRect hl) k) Q := by
  subst ho
  exact use (at_k X κ j hok) (wp_load_rect 𝒱₀ (c : Thread nD τ) none Set.univ subset_rfl) h

theorem step_load_u {Q : α → sProp 𝕄} (j : Fin 8) {inb hl} (ho : o = ![128 * j.val, 0]) (hok : s.U.testBit j.val = true)
    (h : ∀ v, St X κ c s ⊢ WP c (k v) Q) :
    St X κ c s ⊢ WP c (.op (.load rM (Rect.unit (s := S1024x1024) o S128x1024.size inb).toLoadRect hl) k) Q := by
  subst ho
  iintro H
  ihave H := (at_u X κ j hok) $$ H
  unfold rAny
  icases H with ⟨⟨%f, Hk⟩, H⟩
  iapply (wp_load_rect 𝒱₀ (c : Thread nD τ) none Set.univ (m := rM) (r := rc8 j) subset_rfl) $$ Hk
  iintro Hk
  iapply (h ((ck8 rM j).view.read (Elt F) f))
  iapply H
  iexists f
  iexact Hk

theorem step_load_v {Q : α → sProp 𝕄} (j : Fin 8) {inb hl} (ho : o = ![128 * (ownCk c j).val, 0]) (hok : s.V.testBit j.val = true)
    (h : ∀ v, St X κ c s ⊢ WP c (k v) Q) :
    St X κ c s ⊢ WP c (.op (.load oM (Rect.unit (s := S4096x1024) o S128x1024.size inb).toLoadRect hl) k) Q := by
  subst ho
  iintro H
  ihave H := (at_v X κ j hok) $$ H
  unfold oAny
  icases H with ⟨⟨%f, Hk⟩, H⟩
  iapply (wp_load_rect 𝒱₀ (c : Thread nD τ) none Set.univ (m := oM) (r := rc32 (ownCk c j)) subset_rfl) $$ Hk
  iintro Hk
  iapply (h ((ck32 oM (ownCk c j)).view.read (Elt F) f))
  iapply H
  iexists f
  iexact Hk

end Load

variable {k : PUnit → Prog (TpuEff nD τ sig (Elt F) Λ₀ .tc) α} {w : Vec F S128x1024 .bf16}

theorem step_store_r {Q : α → sProp 𝕄} (j : Fin 8) {inb hx hm} (ho : o = ![128 * j.val, 0]) (hw : w = chR X c j) (hok : s.canReduce j = true)
    (h : St X κ c (s.reduce j) ⊢ WP c (k ⟨⟩) Q) :
    St X κ c s ⊢ WP c (.op (.store rM (Rect.unit (s := S1024x1024) o S128x1024.size inb) w Finset.univ hx hm) k) Q := by
  subst ho
  refine use (put_r X κ j hok) ?_ h
  unfold rAny
  iintro ⟨%f, Hk⟩ HB
  iapply (wp_store 𝒱₀ (c : Thread nD τ) none Set.univ (m := rM) (r := rc8 j) (Mk := Finset.univ) (View.setOn_univ _).subset) $$ Hk
  iintro Hk
  iapply HB
  ihave Hk := (Entails.of_eq (written_eq (t := (c : Thread nD τ)) (ck8 rM j).view fullShare f (rV X c) w hw)) $$ Hk
  iexact Hk

theorem step_store_o {Q : α → sProp 𝕄} (j : Fin 8) {inb hx hm} (ho : o = ![128 * (ownCk c j).val, 0]) (hw : w = chR X c j) (hok : s.canKeep j = true)
    (h : St X κ c (s.keep j) ⊢ WP c (k ⟨⟩) Q) :
    St X κ c s ⊢ WP c (.op (.store oM (Rect.unit (s := S4096x1024) o S128x1024.size inb) w Finset.univ hx hm) k) Q := by
  subst ho
  refine use (put_o X κ j hok) ?_ h
  unfold oAny own
  iintro ⟨%f, Hk⟩ HB
  iapply (wp_store 𝒱₀ (c : Thread nD τ) none Set.univ (m := oM) (r := rc32 (ownCk c j)) (Mk := Finset.univ) (View.setOn_univ _).subset) $$ Hk
  iintro Hk
  iapply HB
  ihave Hk := (Entails.of_eq (written_eq (t := (c : Thread nD τ)) (ck32 oM (ownCk c j)).view fullShare f (outV X c) w
    (by rw [read_out, owner_own, lo_own]; exact hw))) $$ Hk
  iexact Hk

end Mem

end Cert.Proof.K

end
-- ==== Proof.Masks.lean ====
module

public import proofs.«01_k».proof.Proof.Ops

@[expose] public section

/-! What a device holds after each part of the body, and the step over a guarded run. -/

set_option maxHeartbeats 400000

noncomputable section

namespace Cert.Proof.K

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → S1024x1024.Idx → Elt F .bf16) (κ : GSem nD τ sig → ℕ) {c : Dev nD} {α : Type}
  {h0 : xM.IsWhole} {h1 : oM.IsWhole} {h2 : aM.IsWhole} {h3 : rM.IsWhole}

/-- Programs over the values `F`. -/
abbrev PG (F : FTy → Type) (α : Type) := Prog (TpuEff nD τ sig (Elt F) Λ₀ .tc) α

/-! ## What is held after each part, at a device at place `y` along y -/

/-- A step taken only where `b` holds. -/
def Masks.on (s : Masks) (b : Prop) [Decidable b] (f : Masks → Masks) : Masks := if b then f s else s

/-- After the barrier: nothing sent, nothing received. -/
def mBar : Masks :=
  { S := 2 ^ 32 - 1, D := 0, E := 0, R := 2 ^ 32 - 1, G := 0, P := (2 ^ 8 - 1) * 2 ^ 32, U := 255, K := 0, V := 255, O := 0 }
/-- After part 10: the first chunk is under way along y. -/
def m10 (y : Fin 2) : Masks := mBar.send y 0
def m11 (y : Fin 2) : Masks := (((m10 y).send y 1).send y 2).send y 3
def m12 (y : Fin 2) : Masks := ((m11 y).send y 4).send y 5
def m13 (y : Fin 2) : Masks := (((m12 y).send y 6).send y 7).recv 0
def m14 (y : Fin 2) : Masks := ((((m13 y).reduce 0).send y 8).keep 0).on (y.val = 0) (fun s => s.send 0 16)
def m15 (y : Fin 2) : Masks := ((((m14 y).recv 1).reduce 1).send y 9).keep 1
def m16 (y : Fin 2) : Masks := (((m15 y).on (y.val = 0) (fun s => s.send 0 17)).recv 8).send y 27
def m17 (y : Fin 2) : Masks := (((m16 y).recv 2).reduce 2).send y 10
def m18 (y : Fin 2) : Masks := ((((m17 y).keep 2).on (y.val = 0) (fun s => s.send 0 18)).on (y.val = 1) (fun s => s.send 1 16)).recv 9
def m19 (y : Fin 2) : Masks := (((m18 y).send y 28).recv 3).reduce 3
def m20 (y : Fin 2) : Masks := (((((m19 y).send y 11).keep 3).on (y.val = 0) (fun s => s.send 0 19)).on (y.val = 1) (fun s => s.send 1 17)).recv 4
def m21 (y : Fin 2) : Masks := (((((m20 y).reduce 4).send y 12).keep 4).on (y.val = 0) (fun s => s.send 0 20)).on (y.val = 1) (fun s => s.send 1 18)
def m22 (y : Fin 2) : Masks := (((m21 y).recv 5).reduce 5).send y 13
def m23 (y : Fin 2) : Masks := (((((m22 y).keep 5).on (y.val = 0) (fun s => s.send 0 21)).on (y.val = 1) (fun s => s.send 1 19)).recv 6).reduce 6
def m24 (y : Fin 2) : Masks := ((((m23 y).send y 14).keep 6).on (y.val = 1) (fun s => s.send 1 20)).recv 7
/-- Part 25 up to the hand-on at y = 0. -/
def m25a (y : Fin 2) : Masks := ((((m24 y).reduce 7).send y 15).keep 7).on (y.val = 1) (fun s => s.send 1 21)
def a1 (s : Masks) : Masks := (s.recv 16).send 0 22
def a2 (s : Masks) : Masks := ((a1 s).recv 17).send 0 23
def a3 (s : Masks) : Masks := ((a2 s).recv 18).send 0 24
def a4 (s : Masks) : Masks := (((a3 s).recv 19).send 0 25).recv 20
/-- The hand-on at y = 0. -/
def block0 (s : Masks) : Masks := ((a4 s).send 0 26).recv 21
def b1 (s : Masks) : Masks := (s.recv 16).send 1 24
def b2 (s : Masks) : Masks := ((b1 s).recv 17).send 1 25
def b3 (s : Masks) : Masks := ((b2 s).recv 18).send 1 26
def b4 (s : Masks) : Masks := (((b3 s).recv 19).recv 20).send 1 22
/-- The hand-on at y = 1. -/
def block1 (s : Masks) : Masks := ((b4 s).recv 21).send 1 23
def m25 (y : Fin 2) : Masks := (m25a y).on (y.val = 0) block0
def m26 (y : Fin 2) : Masks := (((m25 y).on (y.val = 1) block1).recv 13).send y 29
def m27 (y : Fin 2) : Masks := ((m26 y).recv 14).send y 30
def m28 (y : Fin 2) : Masks := (((m27 y).recv 15).send y 31).recv 10
def m29 (y : Fin 2) : Masks := ((m28 y).recv 11).recv 12
def m30 (y : Fin 2) : Masks := (((m29 y).recv 22).recv 23).recv 24
def m31 (y : Fin 2) : Masks := ((m30 y).recv 25).recv 26
def m32 (y : Fin 2) : Masks := (((m31 y).recv 27).recv 28).recv 29
def m33 (y : Fin 2) : Masks := (((m32 y).recv 30).recv 31).sent y 0
def m34 (y : Fin 2) : Masks := (((((m33 y).sent y 1).sent y 2).sent y 3).sent y 4).sent y 5
def m35 (y : Fin 2) : Masks := (((((m34 y).sent y 6).sent y 7).sent y 8).sent y 9).sent y 10
def m36 (y : Fin 2) : Masks := (((((m35 y).sent y 11).sent y 12).sent y 13).sent y 14).sent y 15
def m37 (y : Fin 2) : Masks := ((((m36 y).sent y 16).sent y 17).sent y 18).sent y 19
def m38 (y : Fin 2) : Masks := ((((m37 y).sent y 20).sent y 21).sent y 22).sent y 23
def m39 (y : Fin 2) : Masks := ((((m38 y).sent y 24).sent y 25).sent y 26).sent y 27
/-- After the last wait. -/
def m40 (y : Fin 2) : Masks := (((((m39 y).sent y 28).sent y 29).sent y 30).sent y 31)

/-- A guarded run of operations, stepped over once for both cases of the guard. -/
theorem step_guard {Q : α → sProp 𝕄} {β : Type} {b P : Prop} [Decidable b] [Decidable P] {s : Masks} {f : Masks → Masks}
    {t : b → PG F β} {e : PG F β} {k : β → PG F α} (hb : b ↔ P)
    (ht : ∀ hb : b, P → (St X κ c (f s) ⊢ WP c (e >>= k) Q) → St X κ c s ⊢ WP c (t hb >>= k) Q)
    (h : St X κ c (s.on P f) ⊢ WP c (e >>= k) Q) :
    St X κ c s ⊢ WP c ((if hb : b then t hb else e) >>= k) Q := by
  unfold Masks.on at h
  by_cases hP : P
  · rw [dif_pos (hb.2 hP)]
    rw [if_pos hP] at h
    exact ht _ hP h
  · rw [dif_neg fun h => hP (hb.1 h)]
    rw [if_neg hP] at h
    exact h

end Cert.Proof.K
-- ==== Proof.Barrier.lean ====
module

public import proofs.«01_k».proof.Proof.Masks

@[expose] public section

/-! The barrier the body starts with. -/

set_option maxHeartbeats 400000

noncomputable section

namespace Cert.Proof.K

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → S1024x1024.Idx → Elt F .bf16) (κ : GSem nD τ sig → ℕ) {c : Dev nD} {α : Type}
  {h0 : xM.IsWhole} {h1 : oM.IsWhole} {h2 : aM.IsWhole} {h3 : rM.IsWhole}

/-! ## Families with every bit set, and with none -/

theorem fam_none {n : ℕ} (Φ : Fin n → sProp 𝕄) : iprop(emp) ⊢ fam Φ 0 := by
  unfold fam
  rw [bigSep_congr (Ψ := fun _ => (iprop(emp) : sProp 𝕄)) fun i _ => by rw [Nat.zero_testBit]; rfl]
  exact Entails.of_eq (bigSep_emp_const _).symm
theorem fam_all {n m : ℕ} (Φ : Fin n → sProp 𝕄) (h : ∀ i : Fin n, m.testBit i.val = true) : fam Φ m = bigSep Finset.univ Φ :=
  bigSep_congr fun i _ => by rw [if_pos (h i)]

/-! ## Before the barrier -/

/-- What a device holds of its own transfers before the partners' landings come with the barrier. -/
def tok (c : Dev nD) (i : Fin 32) : sProp 𝕄 :=
  iprop(dutyTok ER (sCell i c) 0 0 ∗ dutyTok ER (rCell i (peer i c)) 0 0 ∗ reached ER (sCell i c) 0 ∗ atPos ER (sCell i c) 0 ∅ 0)

/-- What the barrier does not touch. -/
def still (c : Dev nD) : sProp 𝕄 :=
  iprop(bigSep Finset.univ (due c) ∗ fam (pcs X c) ((2 ^ 8 - 1) * 2 ^ 32) ∗ fam (rAny c) 255 ∗ fam (oAny c) 255 ∗ fam (xKeep X c) 255)

/-- What a device holds when it starts. -/
def Pre (c : Dev nD) : sProp 𝕄 :=
  iprop(levAts L lv ∗ invs X κ ∗ (∃ W, owes (c : Thread nD τ) (O₀ c) W)
    ∗ (bigSep Finset.univ fun d : Fin 3 => iprop(dutyTok ER (barCell (pk d c)) 0 d ∗ reached ER (barCell (pk d c)) 0))
    ∗ cred (tallyAt (barCell c) () 3) ∗ atPos ER (barCell c) 0 ∅ 0
    ∗ bigSep Finset.univ (fun i => landAny i c) ∗ bigSep Finset.univ (tok c) ∗ still X c)

/-- A device's own landings, sorted by the partner they are handed to. -/
theorem hand_out (c : Dev nD) :
    (bigSep Finset.univ fun i : Fin 32 => landAny i c : sProp 𝕄) ⊢ bigSep Finset.univ fun d : Fin 3 => barPay d (pk d c) := by
  unfold barPay
  rw [bigSep_univ_comm]
  refine bigSep_mono fun i _ => ?_
  rw [bigSep_univ_at _ (kd i), if_pos rfl, pk_pk]
  rw [bigSep_congr (Ψ := fun _ => (iprop(emp) : sProp 𝕄)) fun d hd => by rw [if_neg fun e => Finset.ne_of_mem_erase hd e.symm]]
  exact (sep_emp (PROP := sProp 𝕄)).2.trans (sep_mono_right (Entails.of_eq (bigSep_emp_const _).symm))

/-- What the three partners hand over, sorted by transfer. -/
theorem hand_in (c : Dev nD) :
    (bigSep Finset.univ fun d : Fin 3 => barPay d c : sProp 𝕄) ⊢ bigSep Finset.univ fun i : Fin 32 => landAny i (peer i c) := by
  unfold barPay
  rw [bigSep_univ_comm]
  refine bigSep_mono fun i _ => ?_
  refine (bigSep_elim (Finset.mem_univ (kd i))).trans ?_
  rw [if_pos rfl]
  exact .refl _

/-- With the partners' landings every transfer is ready. -/
theorem ready_all (c : Dev nD) :
    iprop(bigSep Finset.univ (fun i : Fin 32 => landAny i (peer i c)) ∗ bigSep Finset.univ (tok c)) ⊢ (fam (ready c) mBar.S : sProp 𝕄) := by
  rw [fam_all (m := mBar.S) _ (by decide), ← bigSep_sep']
  refine bigSep_mono fun i _ => (show (_ : sProp 𝕄) ⊢ _ from ?_)
  unfold tok ready
  iintro ⟨H1, H2, H3, H4, H5⟩
  isplitl [H2]; · iexact H2
  isplitl [H3]; · iexact H3
  isplitl [H1]; · iexact H1
  isplitl [H4]; · iexact H4
  iexact H5

/-- A barrier signal to the partner along axis `d`. -/
theorem signal {A : sProp 𝕄} {Q : α → sProp 𝕄} {k : PUnit → PG F α} (d : Fin 3) (O : CellTallies nD τ sig Unit) {W} {p : Dev nD} (hp : p = pk d c)
    {sm : Sem sig} (hsm : sm = barS)
    (h : iprop((∃ W, owes (c : Thread nD τ) O W) ∗ A) ⊢ WP c (k ⟨⟩) Q) :
    iprop(invs X κ ∗ owes (c : Thread nD τ) (O + tallyAt (barCell (pk d c)) () 1) W
      ∗ dutyTok ER (barCell (pk d c)) 0 d ∗ reached ER (barCell (pk d c)) 0 ∗ barPay d (pk d c) ∗ A)
    ⊢ WP c (.op (.semSignal (p : Thread nD τ) sm 1) k) Q := by
  subst hp hsm
  iintro ⟨#Hi, HO, Ht, #Hr, Hp, HA⟩
  ihave #Hi1 := (invs_at X κ (bar_mem (pk d c))) $$ Hi
  ihave Hp := (Entails.of_eq (payload_bar X (pk d c) d).symm) $$ Hp
  iapply (Rounds.wp_signal 𝒱₀ ER (Rd X) (c : Thread nD τ) none (dst := (pk d c : Thread nD τ)) (sem := barS) (r := 0) (d := d) (κ := κ (barCell (pk d c)))
      (by rw [duties_bar]; exact Finset.mem_univ _) rfl () O rfl) $$ [HO Ht Hp]
  · isplitr; · iexact Hi1
    isplitl [HO]; · iexact HO
    isplitl [Ht]; · iexact Ht
    isplitl [Hp]; · iexact Hp
    iexact Hr
  iintro HO
  iapply h
  isplitl [HO]; · iexists _; iexact HO
  iexact HA

/-- The barrier: three signals, each handing a partner the landings of what it sends; the wait brings the partners'. -/
theorem barrier {Q : α → sProp 𝕄} {k : PUnit → PG F α} {p0 p1 p2 : Dev nD} (e0 : p0 = pk 0 c) (e1 : p1 = pk 1 c) (e2 : p2 = pk 2 c)
    {sm : Sem sig} (hsm : sm = barS) (h : St X κ c mBar ⊢ WP c (k ⟨⟩) Q) :
    Pre X κ c ⊢ WP c (.op (.semSignal (p0 : Thread nD τ) sm 1) fun _ => .op (.semSignal (p1 : Thread nD τ) sm 1) fun _ =>
      .op (.semSignal (p2 : Thread nD τ) sm 1) fun _ => .op (.semWait sm 3) k) Q := by
  unfold Pre
  iintro ⟨#Hl, #Hi, ⟨%W, HO⟩, Ht, Hc, Ha, Hla, Htk, Hst⟩
  ihave Hla := (hand_out c) $$ Hla
  have e3 : ∀ Φ : Fin 3 → sProp 𝕄, bigSep Finset.univ Φ ⊢ iprop(Φ 0 ∗ Φ 1 ∗ Φ 2) := fun Φ => by
    rw [bigSep_univ_at Φ 0, bigSep_erase (i := (1 : Fin 3)) (by decide), bigSep_erase (i := (2 : Fin 3)) (by decide)]
    exact sep_mono_right (sep_mono_right sep_elim_left)
  ihave Hla := (e3 _) $$ Hla
  icases Hla with ⟨Hp0, Hp1, Hp2⟩
  ihave Ht := (e3 _) $$ Ht
  icases Ht with ⟨⟨Ht0, Hr0⟩, ⟨Ht1, Hr1⟩, ⟨Ht2, Hr2⟩⟩
  iapply (signal X κ (A := iprop(dutyTok ER (barCell (pk 1 c)) 0 1 ∗ reached ER (barCell (pk 1 c)) 0 ∗ barPay 1 (pk 1 c)
      ∗ dutyTok ER (barCell (pk 2 c)) 0 2 ∗ reached ER (barCell (pk 2 c)) 0 ∗ barPay 2 (pk 2 c) ∗ invs X κ ∗ levAts L lv
      ∗ cred (tallyAt (barCell c) () 3) ∗ atPos ER (barCell c) 0 ∅ 0 ∗ bigSep Finset.univ (tok c) ∗ still X c)) 0 _ e0 hsm ?_)
  · iintro ⟨⟨%W, HO⟩, Ht1, Hr1, Hp1, Ht2, Hr2, Hp2, #Hi, #Hl, Hc, Ha, Htk, Hst⟩
    iapply (signal X κ (A := iprop(dutyTok ER (barCell (pk 2 c)) 0 2 ∗ reached ER (barCell (pk 2 c)) 0 ∗ barPay 2 (pk 2 c) ∗ invs X κ ∗ levAts L lv
      ∗ cred (tallyAt (barCell c) () 3) ∗ atPos ER (barCell c) 0 ∅ 0 ∗ bigSep Finset.univ (tok c) ∗ still X c)) 1 _ e1 hsm ?_)
    · iintro ⟨⟨%W, HO⟩, Ht2, Hr2, Hp2, #Hi, #Hl, Hc, Ha, Htk, Hst⟩
      iapply (signal X κ (A := iprop(invs X κ ∗ levAts L lv
        ∗ cred (tallyAt (barCell c) () 3) ∗ atPos ER (barCell c) 0 ∅ 0 ∗ bigSep Finset.univ (tok c) ∗ still X c)) 2 _ e2 hsm ?_)
      · iintro ⟨⟨%W, HO⟩, #Hi, #Hl, Hc, Ha, Htk, Hst⟩
        subst hsm
        ihave #Hi1 := (invs_at X κ (bar_mem c)) $$ Hi
        iapply (Rounds.wp_wait_rest_token 𝒱₀ ER (Rd X) (c : Thread nD τ) none (κ := κ (barCell c))
            (wpE_semWait_eq 𝒱₀ (c : Thread nD τ) none Set.univ) (Set.mem_univ _) () (O := dueT all32 c) (W := W) (R := 0) (m := 0) (T := ∅)
            ((Nat.zero_add 3).trans (expect_bar X c).symm)) $$ [Hc HO Ha]
        · isplitr; · iexact Hi1
          isplitl [Hc]; · iexact Hc
          isplitl [HO]; · iexact HO
          isplitr
          · iapply (mayWait c (.reg barS) all32 fun i _ => by rw [lv_bar]; revert i; decide); iexact Hl
          iexact Ha
        iintro ⟨HO, Ha, -, Hp⟩
        ihave Hp := (Entails.of_eq (rest_bar X c)) $$ Hp
        ihave Hp := (hand_in c) $$ Hp
        iapply h
        unfold St still
        icases Hst with ⟨HR, HP, HU, HV, HX⟩
        isplitr; · iexact Hl
        isplitr; · iexact Hi
        isplitl [HO]; · iexists _; iexact HO
        isplitl [Hp Htk]
        · iapply (ready_all c)
          isplitl [Hp]; · iexact Hp
          iexact Htk
        isplitr; · iapply (fam_none (flight c)); iempintro
        isplitr; · iapply (fam_none (sdone c)); iempintro
        isplitl [HR]; · iapply (Entails.of_eq (fam_all (m := mBar.R) (due c) (by decide)).symm); iexact HR
        isplitr; · iapply (fam_none (rdone c)); iempintro
        isplitl [HP]; · iexact HP
        isplitl [HU]; · iexact HU
        isplitr; · iapply (fam_none (rKeep X c)); iempintro
        isplitl [HV]; · iexact HV
        isplitr; · iapply (fam_none (own X c)); iempintro
        isplitl [HX]; · iexact HX
        iexact Ha
      · isplitr; · iexact Hi
        isplitl [HO]; · iexact HO
        isplitl [Ht2]; · iexact Ht2
        isplitl [Hr2]; · iexact Hr2
        isplitl [Hp2]; · iexact Hp2
        isplitr; · iexact Hi
        isplitr; · iexact Hl
        iframe
    · isplitr; · iexact Hi
      isplitl [HO]; · iexact HO
      isplitl [Ht1]; · iexact Ht1
      isplitl [Hr1]; · iexact Hr1
      isplitl [Hp1]; · iexact Hp1
      iframe
      isplitr; · iexact Hi
      iexact Hl
  · isplitr; · iexact Hi
    isplitl [HO]; · iexact HO
    isplitl [Ht0]; · iexact Ht0
    isplitl [Hr0]; · iexact Hr0
    isplitl [Hp0]; · iexact Hp0
    iframe
    isplitr; · iexact Hi
    iexact Hl

end Cert.Proof.K
-- ==== Proof.Parts1.lean ====
module

public import proofs.«01_k».proof.Proof.Masks

@[expose] public section

/-! The first half of the body: parts 11 to 24, stepped through at a symbolic device. -/

set_option maxHeartbeats 400000

noncomputable section

namespace Cert.Proof.K

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → S1024x1024.Idx → Elt F .bf16) (κ : GSem nD τ sig → ℕ) {c : Dev nD} {y : Fin 2} {α : Type}
  {h0 : xM.IsWhole} {h1 : oM.IsWhole} {h2 : aM.IsWhole} {h3 : rM.IsWhole}

/-- Part 11 sends chunks 1–3 of the input along y. -/
theorem part11 {Q : α → sProp 𝕄} (hy : c.val / 2 % 2 = y.val) {v2 v8 v9 : BitVec 32} {k : BitVec 32 → PG F α}
    (h : ∀ a, St X κ c (m11 y) ⊢ WP c (k a) Q) :
    St X κ c (m10 y) ⊢ WP c (k0_part11 xM h0 oM h1 aM h2 rM h3 cc0_scratch2 cc0_scratch3 cc0_scratch4 cc0_scratch5 cc0_scratch6 cc0_scratch7 cc0_scratch8 cc0_scratch9 cc0_scratch10 cc0_scratch11 cc0_scratch12 cc0_scratch13 c v2 v8 v9 >>= k) Q := by
  rw [k0_part11_eq_skeleton]
  unfold k0_part11_skel
  simp only [Prog.bind_lift, Prog.bind_op, Prog.bind_ret, Prog.bind_assoc, Prog.pure_eq_ret]
  refine step_p1 X κ hy 1 (by decide) (Fin.ext (by clear * -; revert c; decide +kernel)) (ck8_eq _ _ rfl) (ck8_eq _ _ rfl) rfl rfl (by clear * -; revert y; decide +kernel) ?_
  refine step_p1 X κ hy 2 (by decide) (Fin.ext (by clear * -; revert c; decide +kernel)) (ck8_eq _ _ rfl) (ck8_eq _ _ rfl) rfl rfl (by clear * -; revert y; decide +kernel) ?_
  refine step_p1 X κ hy 3 (by decide) (Fin.ext (by clear * -; revert c; decide +kernel)) (ck8_eq _ _ rfl) (ck8_eq _ _ rfl) rfl rfl (by clear * -; revert y; decide +kernel) ?_
  exact h _

/-- Part 12 sends chunks 4 and 5 along y. -/
theorem part12 {Q : α → sProp 𝕄} (hy : c.val / 2 % 2 = y.val) {v2 v8 v9 v92 : BitVec 32} {k : PUnit → PG F α}
    (h : St X κ c (m12 y) ⊢ WP c (k ⟨⟩) Q) :
    St X κ c (m11 y) ⊢ WP c (k0_part12 xM h0 oM h1 aM h2 rM h3 cc0_scratch2 cc0_scratch3 cc0_scratch4 cc0_scratch5 cc0_scratch6 cc0_scratch7 cc0_scratch8 cc0_scratch9 cc0_scratch10 cc0_scratch11 cc0_scratch12 cc0_scratch13 c v2 v8 v9 v92 >>= k) Q := by
  rw [k0_part12_eq_skeleton]
  unfold k0_part12_skel
  simp only [Prog.bind_lift, Prog.bind_op, Prog.bind_ret, Prog.bind_assoc, Prog.pure_eq_ret]
  refine step_p1 X κ hy 4 (by decide) (Fin.ext (by clear * -; revert c; decide +kernel)) (ck8_eq _ _ rfl) (ck8_eq _ _ rfl) rfl rfl (by clear * -; revert y; decide +kernel) ?_
  refine step_p1 X κ hy 5 (by decide) (Fin.ext (by clear * -; revert c; decide +kernel)) (ck8_eq _ _ rfl) (ck8_eq _ _ rfl) rfl rfl (by clear * -; revert y; decide +kernel) ?_
  exact h

/-- Part 13 sends the last two chunks along y, waits for the first to arrive, and adds it. -/
theorem part13 {Q : α → sProp 𝕄} (hy : c.val / 2 % 2 = y.val) {v2 v8 v9 : BitVec 32} {k : FVec F S128x1024 .bf16 → PG F α}
    (h : St X κ c (m13 y) ⊢ WP c (k (chR X c 0)) Q) :
    St X κ c (m12 y) ⊢ WP c (k0_part13 xM h0 oM h1 aM h2 rM h3 cc0_scratch2 cc0_scratch3 cc0_scratch4 cc0_scratch5 cc0_scratch6 cc0_scratch7 cc0_scratch8 cc0_scratch9 cc0_scratch10 cc0_scratch11 cc0_scratch12 cc0_scratch13 c v2 v8 v9 >>= k) Q := by
  rw [k0_part13_eq_skeleton]
  unfold k0_part13_skel
  simp only [Prog.bind_lift, Prog.bind_op, Prog.bind_ret, Prog.bind_assoc, Prog.pure_eq_ret]
  refine step_p1 X κ hy 6 (by decide) (Fin.ext (by clear * -; revert c; decide +kernel)) (ck8_eq _ _ rfl) (ck8_eq _ _ rfl) rfl rfl (by clear * -; revert y; decide +kernel) ?_
  refine step_p1 X κ hy 7 (by decide) (Fin.ext (by clear * -; revert c; decide +kernel)) (ck8_eq _ _ rfl) (ck8_eq _ _ rfl) rfl rfl (by clear * -; revert y; decide +kernel) ?_
  refine step_recv X κ 0 rfl (credit8 _) (by clear * -; revert y; decide +kernel) ?_
  refine step_load_x X κ 0 rfl ?_
  refine step_load_a X κ 0 rfl (by clear * -; revert y; decide +kernel) ?_
  refine step_load_u X κ 0 rfl (by clear * -; revert y; decide +kernel) fun _ => ?_
  rw [show k0_pay1 (chX X c 0) (chA X c 0) = chR X c 0 from sum_chunk X c 0]
  exact h

/-- Part 14 keeps reduced chunk 0 and sends it along x, and along z from a device at y = 0. -/
theorem part14 {Q : α → sProp 𝕄} (hy : c.val / 2 % 2 = y.val) {v2 v5 v8 v9 v10 v11 v13 : BitVec 32} {k : PUnit → PG F α}
    (h : St X κ c (m14 y) ⊢ WP c (k ⟨⟩) Q) :
    St X κ c (m13 y) ⊢ WP c (k0_part14 xM h0 oM h1 aM h2 rM h3 cc0_scratch2 cc0_scratch3 cc0_scratch4 cc0_scratch5 cc0_scratch6 cc0_scratch7 cc0_scratch8 cc0_scratch9 cc0_scratch10 cc0_scratch11 cc0_scratch12 cc0_scratch13 c v2 v5 v8 v9 v10 v11 v13 (chR X c 0) >>= k) Q := by
  rw [k0_part14_eq_skeleton]
  unfold k0_part14_skel
  simp only [Prog.bind_lift, Prog.bind_op, Prog.bind_ret, Prog.bind_assoc, Prog.pure_eq_ret]
  refine step_store_r X κ 0 rfl rfl (by clear * -; revert y; decide +kernel) ?_
  refine step_r X κ _ hy 8 0 (by decide) (Fin.ext (by clear * -; revert c; decide +kernel)) (by clear * -; revert y; decide) rfl (ck8_eq _ _ rfl) (ck32_eq _ _ (by clear * -; revert c; decide +kernel)) rfl rfl (by clear * -; revert y; decide +kernel) ?_
  refine step_load_r X κ 0 rfl (by clear * -; revert y; decide +kernel) ?_
  refine step_load_v X κ 0 (by clear * -; revert c; decide +kernel) (by clear * -; revert y; decide +kernel) fun _ => ?_
  refine step_store_o X κ 0 (by clear * -; revert c; decide +kernel) rfl (by clear * -; revert y; decide +kernel) ?_
  refine step_guard X κ (P := y.val = 0) (f := fun s => s.send 0 16) (by rw [← hy]; clear * -; revert c; decide +kernel) (fun hb hP h => ?_) ?_
  · simp only [Prog.bind_op, Prog.bind_ret, Prog.bind_assoc] at h ⊢
    have hc := hy.trans hP
    obtain rfl : y = 0 := Fin.ext hP
    refine step_r X κ _ hy 16 0 (by decide) (Fin.ext (by clear * -; revert c; decide +kernel)) rfl rfl (ck8_eq _ _ rfl) (ck32_eq _ _ (by clear * - hc; revert c; decide +kernel)) rfl rfl (by decide +kernel) ?_
    exact h
  simp only [Prog.bind_op, Prog.bind_ret, Prog.bind_assoc]
  exact h

/-- Part 15 reduces chunk 1, sends it along x and keeps it. -/
theorem part15 {Q : α → sProp 𝕄} (hy : c.val / 2 % 2 = y.val) {v5 v8 v10 v13 : BitVec 32} {k : (Σ' (v215 : BitVec 32), BitVec 32) → PG F α}
    (h : ∀ a b, St X κ c (m15 y) ⊢ WP c (k ⟨a, b⟩) Q) :
    St X κ c (m14 y) ⊢ WP c (k0_part15 xM h0 oM h1 aM h2 rM h3 cc0_scratch2 cc0_scratch3 cc0_scratch4 cc0_scratch5 cc0_scratch6 cc0_scratch7 cc0_scratch8 cc0_scratch9 cc0_scratch10 cc0_scratch11 cc0_scratch12 cc0_scratch13 c v5 v8 v10 v13 >>= k) Q := by
  rw [k0_part15_eq_skeleton]
  unfold k0_part15_skel
  simp only [Prog.bind_lift, Prog.bind_op, Prog.bind_ret, Prog.bind_assoc, Prog.pure_eq_ret]
  refine step_recv X κ 1 rfl (credit8 _) (by clear * -; revert y; decide +kernel) ?_
  refine step_load_x X κ 1 rfl ?_
  refine step_load_a X κ 1 rfl (by clear * -; revert y; decide +kernel) ?_
  refine step_load_u X κ 1 rfl (by clear * -; revert y; decide +kernel) fun _ => ?_
  refine step_store_r X κ 1 rfl (sum_chunk X c 1) (by clear * -; revert y; decide +kernel) ?_
  refine step_r X κ _ hy 9 1 (by decide) (Fin.ext (by clear * -; revert c; decide +kernel)) (by clear * -; revert y; decide) rfl (ck8_eq _ _ rfl) (ck32_eq _ _ (by clear * -; revert c; decide +kernel)) rfl rfl (by clear * -; revert y; decide +kernel) ?_
  refine step_load_r X κ 1 rfl (by clear * -; revert y; decide +kernel) ?_
  refine step_load_v X κ 1 (by clear * -; revert c; decide +kernel) (by clear * -; revert y; decide +kernel) fun _ => ?_
  refine step_store_o X κ 1 (by clear * -; revert c; decide +kernel) rfl (by clear * -; revert y; decide +kernel) ?_
  exact h _ _

/-- Part 16 sends reduced chunk 1 along z at y = 0, and hands chunk 0 from x on along z. -/
theorem part16 {Q : α → sProp 𝕄} (hy : c.val / 2 % 2 = y.val) {v2 v5 v8 v9 v10 v11 v13 v16 v215 c0_i32_162 : BitVec 32} {k : BitVec 32 → PG F α}
    (h : ∀ a, St X κ c (m16 y) ⊢ WP c (k a) Q) :
    St X κ c (m15 y) ⊢ WP c (k0_part16 xM h0 oM h1 aM h2 rM h3 cc0_scratch2 cc0_scratch3 cc0_scratch4 cc0_scratch5 cc0_scratch6 cc0_scratch7 cc0_scratch8 cc0_scratch9 cc0_scratch10 cc0_scratch11 cc0_scratch12 cc0_scratch13 c v2 v5 v8 v9 v10 v11 v13 v16 v215 c0_i32_162 >>= k) Q := by
  rw [k0_part16_eq_skeleton]
  unfold k0_part16_skel
  simp only [Prog.bind_lift, Prog.bind_op, Prog.bind_ret, Prog.bind_assoc, Prog.pure_eq_ret]
  refine step_guard X κ (P := y.val = 0) (f := fun s => s.send 0 17) (by rw [← hy]; clear * -; revert c; decide +kernel) (fun hb hP h => ?_) ?_
  · simp only [Prog.bind_op, Prog.bind_ret, Prog.bind_assoc] at h ⊢
    have hc := hy.trans hP
    obtain rfl : y = 0 := Fin.ext hP
    refine step_r X κ _ hy 17 1 (by decide) (Fin.ext (by clear * -; revert c; decide +kernel)) rfl rfl (ck8_eq _ _ rfl) (ck32_eq _ _ (by clear * - hc; revert c; decide +kernel)) rfl rfl (by decide +kernel) ?_
    exact h
  simp only [Prog.bind_op, Prog.bind_ret, Prog.bind_assoc]
  refine step_recv X κ 8 rfl (credit32 _) (by clear * -; revert y; decide +kernel) ?_
  refine step_f X κ hy 27 (by decide) (Fin.ext (by clear * -; revert c; decide +kernel)) (ck32_eq _ _ (by clear * -; revert c; decide +kernel)) (ck32_eq _ _ (by clear * -; revert c; decide +kernel)) rfl rfl (by clear * -; revert y; decide +kernel) ?_
  exact h _

/-- Part 17 reduces chunk 2 and sends it along x. -/
theorem part17 {Q : α → sProp 𝕄} (hy : c.val / 2 % 2 = y.val) {v5 v8 v10 v13 v246 : BitVec 32} {k : Vec F S128x1024 .bf16 → PG F α}
    (h : St X κ c (m17 y) ⊢ WP c (k (chR X c 2)) Q) :
    St X κ c (m16 y) ⊢ WP c (k0_part17 xM h0 oM h1 aM h2 rM h3 cc0_scratch2 cc0_scratch3 cc0_scratch4 cc0_scratch5 cc0_scratch6 cc0_scratch7 cc0_scratch8 cc0_scratch9 cc0_scratch10 cc0_scratch11 cc0_scratch12 cc0_scratch13 c v5 v8 v10 v13 v246 >>= k) Q := by
  rw [k0_part17_eq_skeleton]
  unfold k0_part17_skel
  simp only [Prog.bind_lift, Prog.bind_op, Prog.bind_ret, Prog.bind_assoc, Prog.pure_eq_ret]
  refine step_recv X κ 2 rfl (credit8 _) (by clear * -; revert y; decide +kernel) ?_
  refine step_load_x X κ 2 rfl ?_
  refine step_load_a X κ 2 rfl (by clear * -; revert y; decide +kernel) ?_
  refine step_load_u X κ 2 rfl (by clear * -; revert y; decide +kernel) fun _ => ?_
  refine step_store_r X κ 2 rfl (sum_chunk X c 2) (by clear * -; revert y; decide +kernel) ?_
  refine step_r X κ _ hy 10 2 (by decide) (Fin.ext (by clear * -; revert c; decide +kernel)) (by clear * -; revert y; decide) rfl (ck8_eq _ _ rfl) (ck32_eq _ _ (by clear * -; revert c; decide +kernel)) rfl rfl (by clear * -; revert y; decide +kernel) ?_
  refine step_load_r X κ 2 rfl (by clear * -; revert y; decide +kernel) ?_
  exact h

/-- Part 18 keeps chunk 2, sends it along z, and waits for chunk 1 from x. -/
theorem part18 {Q : α → sProp 𝕄} (hy : c.val / 2 % 2 = y.val) {v2 v5 v8 v10 v11 v13 v16 : BitVec 32} {k : PUnit → PG F α}
    (h : St X κ c (m18 y) ⊢ WP c (k ⟨⟩) Q) :
    St X κ c (m17 y) ⊢ WP c (k0_part18 xM h0 oM h1 aM h2 rM h3 cc0_scratch2 cc0_scratch3 cc0_scratch4 cc0_scratch5 cc0_scratch6 cc0_scratch7 cc0_scratch8 cc0_scratch9 cc0_scratch10 cc0_scratch11 cc0_scratch12 cc0_scratch13 c v2 v5 v8 v10 v11 v13 v16 (chR X c 2) >>= k) Q := by
  rw [k0_part18_eq_skeleton]
  unfold k0_part18_skel
  simp only [Prog.bind_lift, Prog.bind_op, Prog.bind_ret, Prog.bind_assoc, Prog.pure_eq_ret]
  refine step_load_v X κ 2 (by clear * -; revert c; decide +kernel) (by clear * -; revert y; decide +kernel) fun _ => ?_
  refine step_store_o X κ 2 (by clear * -; revert c; decide +kernel) rfl (by clear * -; revert y; decide +kernel) ?_
  refine step_guard X κ (P := y.val = 0) (f := fun s => s.send 0 18) (by rw [← hy]; clear * -; revert c; decide +kernel) (fun hb hP h => ?_) ?_
  · simp only [Prog.bind_op, Prog.bind_ret, Prog.bind_assoc] at h ⊢
    have hc := hy.trans hP
    obtain rfl : y = 0 := Fin.ext hP
    refine step_r X κ _ hy 18 2 (by decide) (Fin.ext (by clear * -; revert c; decide +kernel)) rfl rfl (ck8_eq _ _ rfl) (ck32_eq _ _ (by clear * - hc; revert c; decide +kernel)) rfl rfl (by decide +kernel) ?_
    exact h
  refine step_guard X κ (P := y.val = 1) (f := fun s => s.send 1 16) (by rw [← hy]; clear * -; revert c; decide +kernel) (fun hb hP h => ?_) ?_
  · simp only [Prog.bind_op, Prog.bind_ret, Prog.bind_assoc] at h ⊢
    have hc := hy.trans hP
    obtain rfl : y = 1 := Fin.ext hP
    refine step_r X κ _ hy 16 2 (by decide) (Fin.ext (by clear * -; revert c; decide +kernel)) rfl rfl (ck8_eq _ _ rfl) (ck32_eq _ _ (by clear * - hc; revert c; decide +kernel)) rfl rfl (by decide +kernel) ?_
    exact h
  simp only [Prog.bind_op, Prog.bind_ret, Prog.bind_assoc]
  refine step_recv X κ 9 rfl (credit32 _) (by clear * -; revert y; decide +kernel) ?_
  exact h

/-- Part 19 hands chunk 1 from x on along z and reduces chunk 3. -/
theorem part19 {Q : α → sProp 𝕄} (hy : c.val / 2 % 2 = y.val) {v2 v5 v8 v9 v10 v13 : BitVec 32} {k : PUnit → PG F α}
    (h : St X κ c (m19 y) ⊢ WP c (k ⟨⟩) Q) :
    St X κ c (m18 y) ⊢ WP c (k0_part19 xM h0 oM h1 aM h2 rM h3 cc0_scratch2 cc0_scratch3 cc0_scratch4 cc0_scratch5 cc0_scratch6 cc0_scratch7 cc0_scratch8 cc0_scratch9 cc0_scratch10 cc0_scratch11 cc0_scratch12 cc0_scratch13 c v2 v5 v8 v9 v10 v13 >>= k) Q := by
  rw [k0_part19_eq_skeleton]
  unfold k0_part19_skel
  simp only [Prog.bind_lift, Prog.bind_op, Prog.bind_ret, Prog.bind_assoc, Prog.pure_eq_ret]
  refine step_f X κ hy 28 (by decide) (Fin.ext (by clear * -; revert c; decide +kernel)) (ck32_eq _ _ (by clear * -; revert c; decide +kernel)) (ck32_eq _ _ (by clear * -; revert c; decide +kernel)) rfl rfl (by clear * -; revert y; decide +kernel) ?_
  refine step_recv X κ 3 rfl (credit8 _) (by clear * -; revert y; decide +kernel) ?_
  refine step_load_x X κ 3 rfl ?_
  refine step_load_a X κ 3 rfl (by clear * -; revert y; decide +kernel) ?_
  refine step_load_u X κ 3 rfl (by clear * -; revert y; decide +kernel) fun _ => ?_
  refine step_store_r X κ 3 rfl (sum_chunk X c 3) (by clear * -; revert y; decide +kernel) ?_
  exact h

/-- Part 20 sends and keeps chunk 3, and adds chunk 4. -/
theorem part20 {Q : α → sProp 𝕄} (hy : c.val / 2 % 2 = y.val) {v2 v5 v8 v9 v11 v13 : BitVec 32} {k : (Σ' (v366 : FVec F S128x1024 .bf16), Vec F S128x1024 .bf16) → PG F α}
    (h : ∀ b, St X κ c (m20 y) ⊢ WP c (k ⟨k0_pay5 (chX X c 4) (chA X c 4), b⟩) Q) :
    St X κ c (m19 y) ⊢ WP c (k0_part20 xM h0 oM h1 aM h2 rM h3 cc0_scratch2 cc0_scratch3 cc0_scratch4 cc0_scratch5 cc0_scratch6 cc0_scratch7 cc0_scratch8 cc0_scratch9 cc0_scratch10 cc0_scratch11 cc0_scratch12 cc0_scratch13 c v2 v5 v8 v9 v11 v13 >>= k) Q := by
  rw [k0_part20_eq_skeleton]
  unfold k0_part20_skel
  simp only [Prog.bind_lift, Prog.bind_op, Prog.bind_ret, Prog.bind_assoc, Prog.pure_eq_ret]
  refine step_r X κ _ hy 11 3 (by decide) (Fin.ext (by clear * -; revert c; decide +kernel)) (by clear * -; revert y; decide) rfl (ck8_eq _ _ rfl) (ck32_eq _ _ (by clear * -; revert c; decide +kernel)) rfl rfl (by clear * -; revert y; decide +kernel) ?_
  refine step_load_r X κ 3 rfl (by clear * -; revert y; decide +kernel) ?_
  refine step_load_v X κ 3 (by clear * -; revert c; decide +kernel) (by clear * -; revert y; decide +kernel) fun _ => ?_
  refine step_store_o X κ 3 (by clear * -; revert c; decide +kernel) rfl (by clear * -; revert y; decide +kernel) ?_
  refine step_guard X κ (P := y.val = 0) (f := fun s => s.send 0 19) (by rw [← hy]; clear * -; revert c; decide +kernel) (fun hb hP h => ?_) ?_
  · simp only [Prog.bind_op, Prog.bind_ret, Prog.bind_assoc] at h ⊢
    have hc := hy.trans hP
    obtain rfl : y = 0 := Fin.ext hP
    refine step_r X κ _ hy 19 3 (by decide) (Fin.ext (by clear * -; revert c; decide +kernel)) rfl rfl (ck8_eq _ _ rfl) (ck32_eq _ _ (by clear * - hc; revert c; decide +kernel)) rfl rfl (by decide +kernel) ?_
    exact h
  refine step_guard X κ (P := y.val = 1) (f := fun s => s.send 1 17) (by rw [← hy]; clear * -; revert c; decide +kernel) (fun hb hP h => ?_) ?_
  · simp only [Prog.bind_op, Prog.bind_ret, Prog.bind_assoc] at h ⊢
    have hc := hy.trans hP
    obtain rfl : y = 1 := Fin.ext hP
    refine step_r X κ _ hy 17 3 (by decide) (Fin.ext (by clear * -; revert c; decide +kernel)) rfl rfl (ck8_eq _ _ rfl) (ck32_eq _ _ (by clear * - hc; revert c; decide +kernel)) rfl rfl (by decide +kernel) ?_
    exact h
  simp only [Prog.bind_op, Prog.bind_ret, Prog.bind_assoc]
  refine step_recv X κ 4 rfl (credit8 _) (by clear * -; revert y; decide +kernel) ?_
  refine step_load_x X κ 4 rfl ?_
  refine step_load_a X κ 4 rfl (by clear * -; revert y; decide +kernel) ?_
  refine step_load_u X κ 4 rfl (by clear * -; revert y; decide +kernel) fun _ => ?_
  exact h _

/-- Part 21 stores, sends and keeps chunk 4. -/
theorem part21 {Q : α → sProp 𝕄} (hy : c.val / 2 % 2 = y.val) {v367 : Vec F S128x1024 .bf16} {v2 v5 v8 v9 v10 v11 v13 : BitVec 32} {k : (Σ' (v396 : BitVec 32), BitVec 32) → PG F α}
    (h : ∀ a b, St X κ c (m21 y) ⊢ WP c (k ⟨a, b⟩) Q) :
    St X κ c (m20 y) ⊢ WP c (k0_part21 xM h0 oM h1 aM h2 rM h3 cc0_scratch2 cc0_scratch3 cc0_scratch4 cc0_scratch5 cc0_scratch6 cc0_scratch7 cc0_scratch8 cc0_scratch9 cc0_scratch10 cc0_scratch11 cc0_scratch12 cc0_scratch13 c v2 v5 v8 v9 v10 v11 v13 (k0_pay5 (chX X c 4) (chA X c 4)) v367 >>= k) Q := by
  rw [k0_part21_eq_skeleton]
  unfold k0_part21_skel
  simp only [Prog.bind_lift, Prog.bind_op, Prog.bind_ret, Prog.bind_assoc, Prog.pure_eq_ret]
  refine step_store_r X κ 4 rfl (sum_chunk X c 4) (by clear * -; revert y; decide +kernel) ?_
  refine step_r X κ _ hy 12 4 (by decide) (Fin.ext (by clear * -; revert c; decide +kernel)) (by clear * -; revert y; decide) rfl (ck8_eq _ _ rfl) (ck32_eq _ _ (by clear * -; revert c; decide +kernel)) rfl rfl (by clear * -; revert y; decide +kernel) ?_
  refine step_load_r X κ 4 rfl (by clear * -; revert y; decide +kernel) ?_
  refine step_load_v X κ 4 (by clear * -; revert c; decide +kernel) (by clear * -; revert y; decide +kernel) fun _ => ?_
  refine step_store_o X κ 4 (by clear * -; revert c; decide +kernel) rfl (by clear * -; revert y; decide +kernel) ?_
  refine step_guard X κ (P := y.val = 0) (f := fun s => s.send 0 20) (by rw [← hy]; clear * -; revert c; decide +kernel) (fun hb hP h => ?_) ?_
  · simp only [Prog.bind_op, Prog.bind_ret, Prog.bind_assoc] at h ⊢
    have hc := hy.trans hP
    obtain rfl : y = 0 := Fin.ext hP
    refine step_r X κ _ hy 20 4 (by decide) (Fin.ext (by clear * -; revert c; decide +kernel)) rfl rfl (ck8_eq _ _ rfl) (ck32_eq _ _ (by clear * - hc; revert c; decide +kernel)) rfl rfl (by decide +kernel) ?_
    exact h
  refine step_guard X κ (P := y.val = 1) (f := fun s => s.send 1 18) (by rw [← hy]; clear * -; revert c; decide +kernel) (fun hb hP h => ?_) ?_
  · simp only [Prog.bind_op, Prog.bind_ret, Prog.bind_assoc] at h ⊢
    have hc := hy.trans hP
    obtain rfl : y = 1 := Fin.ext hP
    refine step_r X κ _ hy 18 4 (by decide) (Fin.ext (by clear * -; revert c; decide +kernel)) rfl rfl (ck8_eq _ _ rfl) (ck32_eq _ _ (by clear * - hc; revert c; decide +kernel)) rfl rfl (by decide +kernel) ?_
    exact h
  simp only [Prog.bind_op, Prog.bind_ret, Prog.bind_assoc]
  exact h _ _

/-- Part 22 reduces chunk 5 and sends it along x. -/
theorem part22 {Q : α → sProp 𝕄} (hy : c.val / 2 % 2 = y.val) {v5 v8 v10 v13 v396 v397 : BitVec 32} {k : (Σ' (v426 : Vec F S128x1024 .bf16), BitVec 32) → PG F α}
    (h : ∀ b, St X κ c (m22 y) ⊢ WP c (k ⟨chR X c 5, b⟩) Q) :
    St X κ c (m21 y) ⊢ WP c (k0_part22 xM h0 oM h1 aM h2 rM h3 cc0_scratch2 cc0_scratch3 cc0_scratch4 cc0_scratch5 cc0_scratch6 cc0_scratch7 cc0_scratch8 cc0_scratch9 cc0_scratch10 cc0_scratch11 cc0_scratch12 cc0_scratch13 c v5 v8 v10 v13 v396 v397 >>= k) Q := by
  rw [k0_part22_eq_skeleton]
  unfold k0_part22_skel
  simp only [Prog.bind_lift, Prog.bind_op, Prog.bind_ret, Prog.bind_assoc, Prog.pure_eq_ret]
  refine step_recv X κ 5 rfl (credit8 _) (by clear * -; revert y; decide +kernel) ?_
  refine step_load_x X κ 5 rfl ?_
  refine step_load_a X κ 5 rfl (by clear * -; revert y; decide +kernel) ?_
  refine step_load_u X κ 5 rfl (by clear * -; revert y; decide +kernel) fun _ => ?_
  refine step_store_r X κ 5 rfl (sum_chunk X c 5) (by clear * -; revert y; decide +kernel) ?_
  refine step_r X κ _ hy 13 5 (by decide) (Fin.ext (by clear * -; revert c; decide +kernel)) (by clear * -; revert y; decide) rfl (ck8_eq _ _ rfl) (ck32_eq _ _ (by clear * -; revert c; decide +kernel)) rfl rfl (by clear * -; revert y; decide +kernel) ?_
  refine step_load_r X κ 5 rfl (by clear * -; revert y; decide +kernel) ?_
  exact h _

/-- Part 23 keeps chunk 5, sends it along z, and reduces chunk 6. -/
theorem part23 {Q : α → sProp 𝕄} (hy : c.val / 2 % 2 = y.val) {v2 v5 v8 v9 v10 v11 v13 v428 : BitVec 32} {k : (Σ' (v456 : BitVec 32), BitVec 32) → PG F α}
    (h : ∀ a b, St X κ c (m23 y) ⊢ WP c (k ⟨a, b⟩) Q) :
    St X κ c (m22 y) ⊢ WP c (k0_part23 xM h0 oM h1 aM h2 rM h3 cc0_scratch2 cc0_scratch3 cc0_scratch4 cc0_scratch5 cc0_scratch6 cc0_scratch7 cc0_scratch8 cc0_scratch9 cc0_scratch10 cc0_scratch11 cc0_scratch12 cc0_scratch13 c v2 v5 v8 v9 v10 v11 v13 (chR X c 5) v428 >>= k) Q := by
  rw [k0_part23_eq_skeleton]
  unfold k0_part23_skel
  simp only [Prog.bind_lift, Prog.bind_op, Prog.bind_ret, Prog.bind_assoc, Prog.pure_eq_ret]
  refine step_load_v X κ 5 (by clear * -; revert c; decide +kernel) (by clear * -; revert y; decide +kernel) fun _ => ?_
  refine step_store_o X κ 5 (by clear * -; revert c; decide +kernel) rfl (by clear * -; revert y; decide +kernel) ?_
  refine step_guard X κ (P := y.val = 0) (f := fun s => s.send 0 21) (by rw [← hy]; clear * -; revert c; decide +kernel) (fun hb hP h => ?_) ?_
  · simp only [Prog.bind_op, Prog.bind_ret, Prog.bind_assoc] at h ⊢
    have hc := hy.trans hP
    obtain rfl : y = 0 := Fin.ext hP
    refine step_r X κ _ hy 21 5 (by decide) (Fin.ext (by clear * -; revert c; decide +kernel)) rfl rfl (ck8_eq _ _ rfl) (ck32_eq _ _ (by clear * - hc; revert c; decide +kernel)) rfl rfl (by decide +kernel) ?_
    exact h
  refine step_guard X κ (P := y.val = 1) (f := fun s => s.send 1 19) (by rw [← hy]; clear * -; revert c; decide +kernel) (fun hb hP h => ?_) ?_
  · simp only [Prog.bind_op, Prog.bind_ret, Prog.bind_assoc] at h ⊢
    have hc := hy.trans hP
    obtain rfl : y = 1 := Fin.ext hP
    refine step_r X κ _ hy 19 5 (by decide) (Fin.ext (by clear * -; revert c; decide +kernel)) rfl rfl (ck8_eq _ _ rfl) (ck32_eq _ _ (by clear * - hc; revert c; decide +kernel)) rfl rfl (by decide +kernel) ?_
    exact h
  simp only [Prog.bind_op, Prog.bind_ret, Prog.bind_assoc]
  refine step_recv X κ 6 rfl (credit8 _) (by clear * -; revert y; decide +kernel) ?_
  refine step_load_x X κ 6 rfl ?_
  refine step_load_a X κ 6 rfl (by clear * -; revert y; decide +kernel) ?_
  refine step_load_u X κ 6 rfl (by clear * -; revert y; decide +kernel) fun _ => ?_
  refine step_store_r X κ 6 rfl (sum_chunk X c 6) (by clear * -; revert y; decide +kernel) ?_
  exact h _ _

/-- Part 24 sends and keeps chunk 6, and reads the input's chunk 7. -/
theorem part24 {Q : α → sProp 𝕄} (hy : c.val / 2 % 2 = y.val) {v2 v5 v8 v9 v11 v13 v456 c0_i32_365 : BitVec 32} {k : FVec F S128x1024 .bf16 → PG F α}
    (h : St X κ c (m24 y) ⊢ WP c (k (k0_pay9 (chX X c 7))) Q) :
    St X κ c (m23 y) ⊢ WP c (k0_part24 xM h0 oM h1 aM h2 rM h3 cc0_scratch2 cc0_scratch3 cc0_scratch4 cc0_scratch5 cc0_scratch6 cc0_scratch7 cc0_scratch8 cc0_scratch9 cc0_scratch10 cc0_scratch11 cc0_scratch12 cc0_scratch13 c v2 v5 v8 v9 v11 v13 v456 c0_i32_365 >>= k) Q := by
  rw [k0_part24_eq_skeleton]
  unfold k0_part24_skel
  simp only [Prog.bind_lift, Prog.bind_op, Prog.bind_ret, Prog.bind_assoc, Prog.pure_eq_ret]
  refine step_r X κ _ hy 14 6 (by decide) (Fin.ext (by clear * -; revert c; decide +kernel)) (by clear * -; revert y; decide) rfl (ck8_eq _ _ rfl) (ck32_eq _ _ (by clear * -; revert c; decide +kernel)) rfl rfl (by clear * -; revert y; decide +kernel) ?_
  refine step_load_r X κ 6 rfl (by clear * -; revert y; decide +kernel) ?_
  refine step_load_v X κ 6 (by clear * -; revert c; decide +kernel) (by clear * -; revert y; decide +kernel) fun _ => ?_
  refine step_store_o X κ 6 (by clear * -; revert c; decide +kernel) rfl (by clear * -; revert y; decide +kernel) ?_
  refine step_guard X κ (P := y.val = 1) (f := fun s => s.send 1 20) (by rw [← hy]; clear * -; revert c; decide +kernel) (fun hb hP h => ?_) ?_
  · simp only [Prog.bind_op, Prog.bind_ret, Prog.bind_assoc] at h ⊢
    have hc := hy.trans hP
    obtain rfl : y = 1 := Fin.ext hP
    refine step_r X κ _ hy 20 6 (by decide) (Fin.ext (by clear * -; revert c; decide +kernel)) rfl rfl (ck8_eq _ _ rfl) (ck32_eq _ _ (by clear * - hc; revert c; decide +kernel)) rfl rfl (by decide +kernel) ?_
    exact h
  simp only [Prog.bind_op, Prog.bind_ret, Prog.bind_assoc]
  refine step_recv X κ 7 rfl (credit8 _) (by clear * -; revert y; decide +kernel) ?_
  refine step_load_x X κ 7 rfl ?_
  exact h

end Cert.Proof.K
-- ==== Proof.HandOn.lean ====
module

public import proofs.«01_k».proof.Proof.Masks

@[expose] public section

/-! The hand-on of what came along z: parts 1–4 at y = 0, parts 5–8 at y = 1. -/

set_option maxHeartbeats 400000

noncomputable section

namespace Cert.Proof.K

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → S1024x1024.Idx → Elt F .bf16) (κ : GSem nD τ sig → ℕ) {c : Dev nD} {α : Type}
  {h0 : xM.IsWhole} {h1 : oM.IsWhole} {h2 : aM.IsWhole} {h3 : rM.IsWhole}

/-- Part 1 waits for the next chunk along z and hands it on. -/
theorem part1 {Q : α → sProp 𝕄} (hy : c.val / 2 % 2 = 0) {v2 v5 v8 v9 v11 v19 : BitVec 32} {k0_h13 : k0_cond13 c = 1#1} {k : BitVec 32 → PG F α}
    (h : ∀ a, St X κ c (a1 (m25a 0)) ⊢ WP c (k a) Q) :
    St X κ c (m25a 0) ⊢ WP c (k0_part1 xM h0 oM h1 aM h2 rM h3 cc0_scratch2 cc0_scratch3 cc0_scratch4 cc0_scratch5 cc0_scratch6 cc0_scratch7 cc0_scratch8 cc0_scratch9 cc0_scratch10 cc0_scratch11 cc0_scratch12 cc0_scratch13 c v2 v5 v8 v9 v11 v19 k0_h13 >>= k) Q := by
  rw [k0_part1_eq_skeleton]
  unfold k0_part1_skel
  have hc := hy
  simp only [Prog.bind_lift, Prog.bind_op, Prog.bind_ret, Prog.bind_assoc, Prog.pure_eq_ret]
  refine step_recv X κ 16 rfl (credit32 _) (by decide +kernel) ?_
  refine step_f X κ hy 22 (by decide) (Fin.ext (by clear * -; revert c; decide +kernel)) (ck32_eq _ _ (by clear * - hc; revert c; decide +kernel)) (ck32_eq _ _ (by clear * - hc; revert c; decide +kernel)) rfl rfl (by decide +kernel) ?_
  exact h _

/-- Part 2 waits for the next chunk along z and hands it on. -/
theorem part2 {Q : α → sProp 𝕄} (hy : c.val / 2 % 2 = 0) {v2 v5 v8 v9 v11 v19 c4_i32_880 : BitVec 32} {k0_h13 : k0_cond13 c = 1#1} {k : (Σ' (v978 : BitVec 32), BitVec 32) → PG F α}
    (h : ∀ a b, St X κ c (a2 (m25a 0)) ⊢ WP c (k ⟨a, b⟩) Q) :
    St X κ c (a1 (m25a 0)) ⊢ WP c (k0_part2 xM h0 oM h1 aM h2 rM h3 cc0_scratch2 cc0_scratch3 cc0_scratch4 cc0_scratch5 cc0_scratch6 cc0_scratch7 cc0_scratch8 cc0_scratch9 cc0_scratch10 cc0_scratch11 cc0_scratch12 cc0_scratch13 c v2 v5 v8 v9 v11 v19 k0_h13 c4_i32_880 >>= k) Q := by
  rw [k0_part2_eq_skeleton]
  unfold k0_part2_skel
  have hc := hy
  simp only [Prog.bind_lift, Prog.bind_op, Prog.bind_ret, Prog.bind_assoc, Prog.pure_eq_ret]
  refine step_recv X κ 17 rfl (credit32 _) (by decide +kernel) ?_
  refine step_f X κ hy 23 (by decide) (Fin.ext (by clear * -; revert c; decide +kernel)) (ck32_eq _ _ (by clear * - hc; revert c; decide +kernel)) (ck32_eq _ _ (by clear * - hc; revert c; decide +kernel)) rfl rfl (by decide +kernel) ?_
  exact h _ _

/-- Part 3 waits for the next chunk along z and hands it on. -/
theorem part3 {Q : α → sProp 𝕄} (hy : c.val / 2 % 2 = 0) {v2 v5 v8 v10 v11 v19 v978 c1_i32_906 : BitVec 32} {k0_h13 : k0_cond13 c = 1#1} {k : PUnit → PG F α}
    (h : St X κ c (a3 (m25a 0)) ⊢ WP c (k ⟨⟩) Q) :
    St X κ c (a2 (m25a 0)) ⊢ WP c (k0_part3 xM h0 oM h1 aM h2 rM h3 cc0_scratch2 cc0_scratch3 cc0_scratch4 cc0_scratch5 cc0_scratch6 cc0_scratch7 cc0_scratch8 cc0_scratch9 cc0_scratch10 cc0_scratch11 cc0_scratch12 cc0_scratch13 c v2 v5 v8 v10 v11 v19 k0_h13 v978 c1_i32_906 >>= k) Q := by
  rw [k0_part3_eq_skeleton]
  unfold k0_part3_skel
  have hc := hy
  simp only [Prog.bind_lift, Prog.bind_op, Prog.bind_ret, Prog.bind_assoc, Prog.pure_eq_ret]
  refine step_recv X κ 18 rfl (credit32 _) (by decide +kernel) ?_
  refine step_f X κ hy 24 (by decide) (Fin.ext (by clear * -; revert c; decide +kernel)) (ck32_eq _ _ (by clear * - hc; revert c; decide +kernel)) (ck32_eq _ _ (by clear * - hc; revert c; decide +kernel)) rfl rfl (by decide +kernel) ?_
  exact h

/-- Part 4 waits for the next chunk along z and hands it on. -/
theorem part4 {Q : α → sProp 𝕄} (hy : c.val / 2 % 2 = 0) {v2 v5 v8 v10 v11 v19 : BitVec 32} {k0_h13 : k0_cond13 c = 1#1} {k : PUnit → PG F α}
    (h : St X κ c (a4 (m25a 0)) ⊢ WP c (k ⟨⟩) Q) :
    St X κ c (a3 (m25a 0)) ⊢ WP c (k0_part4 xM h0 oM h1 aM h2 rM h3 cc0_scratch2 cc0_scratch3 cc0_scratch4 cc0_scratch5 cc0_scratch6 cc0_scratch7 cc0_scratch8 cc0_scratch9 cc0_scratch10 cc0_scratch11 cc0_scratch12 cc0_scratch13 c v2 v5 v8 v10 v11 v19 k0_h13 >>= k) Q := by
  rw [k0_part4_eq_skeleton]
  unfold k0_part4_skel
  have hc := hy
  simp only [Prog.bind_lift, Prog.bind_op, Prog.bind_ret, Prog.bind_assoc, Prog.pure_eq_ret]
  refine step_recv X κ 19 rfl (credit32 _) (by decide +kernel) ?_
  refine step_f X κ hy 25 (by decide) (Fin.ext (by clear * -; revert c; decide +kernel)) (ck32_eq _ _ (by clear * - hc; revert c; decide +kernel)) (ck32_eq _ _ (by clear * - hc; revert c; decide +kernel)) rfl rfl (by decide +kernel) ?_
  refine step_recv X κ 20 rfl (credit32 _) (by decide +kernel) ?_
  exact h

/-- Part 5 waits for the next chunk along z and hands it on. -/
theorem part5 {Q : α → sProp 𝕄} (hy : c.val / 2 % 2 = 1) {v2 v5 v8 v10 v11 v19 : BitVec 32} {k0_h14 : k0_cond14 c = 1#1} {k : BitVec 32 → PG F α}
    (h : ∀ a, St X κ c (b1 (m25 1)) ⊢ WP c (k a) Q) :
    St X κ c (m25 1) ⊢ WP c (k0_part5 xM h0 oM h1 aM h2 rM h3 cc0_scratch2 cc0_scratch3 cc0_scratch4 cc0_scratch5 cc0_scratch6 cc0_scratch7 cc0_scratch8 cc0_scratch9 cc0_scratch10 cc0_scratch11 cc0_scratch12 cc0_scratch13 c v2 v5 v8 v10 v11 v19 k0_h14 >>= k) Q := by
  rw [k0_part5_eq_skeleton]
  unfold k0_part5_skel
  have hc := hy
  simp only [Prog.bind_lift, Prog.bind_op, Prog.bind_ret, Prog.bind_assoc, Prog.pure_eq_ret]
  refine step_recv X κ 16 rfl (credit32 _) (by decide +kernel) ?_
  refine step_f X κ hy 24 (by decide) (Fin.ext (by clear * -; revert c; decide +kernel)) (ck32_eq _ _ (by clear * - hc; revert c; decide +kernel)) (ck32_eq _ _ (by clear * - hc; revert c; decide +kernel)) rfl rfl (by decide +kernel) ?_
  exact h _

/-- Part 6 waits for the next chunk along z and hands it on. -/
theorem part6 {Q : α → sProp 𝕄} (hy : c.val / 2 % 2 = 1) {v2 v5 v8 v10 v11 v19 c4_i32_880 : BitVec 32} {k0_h14 : k0_cond14 c = 1#1} {k : (Σ' (v978 : BitVec 32), BitVec 32) → PG F α}
    (h : ∀ a b, St X κ c (b2 (m25 1)) ⊢ WP c (k ⟨a, b⟩) Q) :
    St X κ c (b1 (m25 1)) ⊢ WP c (k0_part6 xM h0 oM h1 aM h2 rM h3 cc0_scratch2 cc0_scratch3 cc0_scratch4 cc0_scratch5 cc0_scratch6 cc0_scratch7 cc0_scratch8 cc0_scratch9 cc0_scratch10 cc0_scratch11 cc0_scratch12 cc0_scratch13 c v2 v5 v8 v10 v11 v19 k0_h14 c4_i32_880 >>= k) Q := by
  rw [k0_part6_eq_skeleton]
  unfold k0_part6_skel
  have hc := hy
  simp only [Prog.bind_lift, Prog.bind_op, Prog.bind_ret, Prog.bind_assoc, Prog.pure_eq_ret]
  refine step_recv X κ 17 rfl (credit32 _) (by decide +kernel) ?_
  refine step_f X κ hy 25 (by decide) (Fin.ext (by clear * -; revert c; decide +kernel)) (ck32_eq _ _ (by clear * - hc; revert c; decide +kernel)) (ck32_eq _ _ (by clear * - hc; revert c; decide +kernel)) rfl rfl (by decide +kernel) ?_
  exact h _ _

/-- Part 7 waits for the next chunk along z and hands it on. -/
theorem part7 {Q : α → sProp 𝕄} (hy : c.val / 2 % 2 = 1) {v2 v5 v8 v10 v11 v19 v978 c1_i32_906 : BitVec 32} {k0_h14 : k0_cond14 c = 1#1} {k : PUnit → PG F α}
    (h : St X κ c (b3 (m25 1)) ⊢ WP c (k ⟨⟩) Q) :
    St X κ c (b2 (m25 1)) ⊢ WP c (k0_part7 xM h0 oM h1 aM h2 rM h3 cc0_scratch2 cc0_scratch3 cc0_scratch4 cc0_scratch5 cc0_scratch6 cc0_scratch7 cc0_scratch8 cc0_scratch9 cc0_scratch10 cc0_scratch11 cc0_scratch12 cc0_scratch13 c v2 v5 v8 v10 v11 v19 k0_h14 v978 c1_i32_906 >>= k) Q := by
  rw [k0_part7_eq_skeleton]
  unfold k0_part7_skel
  have hc := hy
  simp only [Prog.bind_lift, Prog.bind_op, Prog.bind_ret, Prog.bind_assoc, Prog.pure_eq_ret]
  refine step_recv X κ 18 rfl (credit32 _) (by decide +kernel) ?_
  refine step_f X κ hy 26 (by decide) (Fin.ext (by clear * -; revert c; decide +kernel)) (ck32_eq _ _ (by clear * - hc; revert c; decide +kernel)) (ck32_eq _ _ (by clear * - hc; revert c; decide +kernel)) rfl rfl (by decide +kernel) ?_
  exact h

/-- Part 8 waits for the next chunk along z and hands it on. -/
theorem part8 {Q : α → sProp 𝕄} (hy : c.val / 2 % 2 = 1) {v2 v5 v8 v9 v11 v19 : BitVec 32} {k0_h14 : k0_cond14 c = 1#1} {k : PUnit → PG F α}
    (h : St X κ c (b4 (m25 1)) ⊢ WP c (k ⟨⟩) Q) :
    St X κ c (b3 (m25 1)) ⊢ WP c (k0_part8 xM h0 oM h1 aM h2 rM h3 cc0_scratch2 cc0_scratch3 cc0_scratch4 cc0_scratch5 cc0_scratch6 cc0_scratch7 cc0_scratch8 cc0_scratch9 cc0_scratch10 cc0_scratch11 cc0_scratch12 cc0_scratch13 c v2 v5 v8 v9 v11 v19 k0_h14 >>= k) Q := by
  rw [k0_part8_eq_skeleton]
  unfold k0_part8_skel
  have hc := hy
  simp only [Prog.bind_lift, Prog.bind_op, Prog.bind_ret, Prog.bind_assoc, Prog.pure_eq_ret]
  refine step_recv X κ 19 rfl (credit32 _) (by decide +kernel) ?_
  refine step_recv X κ 20 rfl (credit32 _) (by decide +kernel) ?_
  refine step_f X κ hy 22 (by decide) (Fin.ext (by clear * -; revert c; decide +kernel)) (ck32_eq _ _ (by clear * - hc; revert c; decide +kernel)) (ck32_eq _ _ (by clear * - hc; revert c; decide +kernel)) rfl rfl (by decide +kernel) ?_
  exact h

end Cert.Proof.K
-- ==== Proof.Parts2.lean ====
module

public import proofs.«01_k».proof.Proof.HandOn

@[expose] public section

/-! The second half of the body: parts 25 to 39. -/

set_option maxHeartbeats 400000

noncomputable section

namespace Cert.Proof.K

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → S1024x1024.Idx → Elt F .bf16) (κ : GSem nD τ sig → ℕ) {c : Dev nD} {y : Fin 2} {α : Type}
  {h0 : xM.IsWhole} {h1 : oM.IsWhole} {h2 : aM.IsWhole} {h3 : rM.IsWhole}

/-- Part 25 reduces, sends and keeps chunk 7; a device at y = 0 then hands on what came along z. -/
theorem part25 {Q : α → sProp 𝕄} (hy : c.val / 2 % 2 = y.val) {v2 v5 v8 v9 v10 v11 v13 v19 : BitVec 32} {k : BitVec 1 → PG F α}
    (h : ∀ a, St X κ c (m25 y) ⊢ WP c (k a) Q) :
    St X κ c (m24 y) ⊢ WP c (k0_part25 xM h0 oM h1 aM h2 rM h3 cc0_scratch2 cc0_scratch3 cc0_scratch4 cc0_scratch5 cc0_scratch6 cc0_scratch7 cc0_scratch8 cc0_scratch9 cc0_scratch10 cc0_scratch11 cc0_scratch12 cc0_scratch13 c v2 v5 v8 v9 v10 v11 v13 v19 (k0_pay9 (chX X c 7)) >>= k) Q := by
  rw [k0_part25_eq_skeleton]
  unfold k0_part25_skel
  simp only [Prog.bind_lift, Prog.bind_op, Prog.bind_ret, Prog.bind_assoc, Prog.pure_eq_ret]
  refine step_load_a X κ 7 rfl (by clear * -; revert y; decide +kernel) ?_
  refine step_load_u X κ 7 rfl (by clear * -; revert y; decide +kernel) fun _ => ?_
  refine step_store_r X κ 7 rfl (sum_chunk X c 7) (by clear * -; revert y; decide +kernel) ?_
  refine step_r X κ _ hy 15 7 (by decide) (Fin.ext (by clear * -; revert c; decide +kernel)) (by clear * -; revert y; decide) rfl (ck8_eq _ _ rfl) (ck32_eq _ _ (by clear * -; revert c; decide +kernel)) rfl rfl (by clear * -; revert y; decide +kernel) ?_
  refine step_load_r X κ 7 rfl (by clear * -; revert y; decide +kernel) ?_
  refine step_load_v X κ 7 (by clear * -; revert c; decide +kernel) (by clear * -; revert y; decide +kernel) fun _ => ?_
  refine step_store_o X κ 7 (by clear * -; revert c; decide +kernel) rfl (by clear * -; revert y; decide +kernel) ?_
  refine step_guard X κ (P := y.val = 1) (f := fun s => s.send 1 21) (by rw [← hy]; clear * -; revert c; decide +kernel) (fun hb hP h => ?_) ?_
  · simp only [Prog.bind_op, Prog.bind_ret, Prog.bind_assoc] at h ⊢
    have hc := hy.trans hP
    obtain rfl : y = 1 := Fin.ext hP
    refine step_r X κ _ hy 21 7 (by decide) (Fin.ext (by clear * -; revert c; decide +kernel)) rfl rfl (ck8_eq _ _ rfl) (ck32_eq _ _ (by clear * - hc; revert c; decide +kernel)) rfl rfl (by decide +kernel) ?_
    exact h
  refine step_guard X κ (P := y.val = 0) (f := block0) (by rw [← hy]; clear * -; revert c; decide +kernel) (fun hb hP h => ?_) ?_
  · simp only [Prog.bind_op, Prog.bind_ret, Prog.bind_assoc] at h ⊢
    have hc := hy.trans hP
    obtain rfl : y = 0 := Fin.ext hP
    refine part1 X κ hc fun _ => part2 X κ hc fun _ _ => part3 X κ hc (part4 X κ hc ?_)
    refine step_f X κ hy 26 (by decide) (Fin.ext (by clear * -; revert c; decide +kernel)) (ck32_eq _ _ (by clear * - hc; revert c; decide +kernel)) (ck32_eq _ _ (by clear * - hc; revert c; decide +kernel)) rfl rfl (by decide +kernel) ?_
    refine step_recv X κ 21 rfl (credit32 _) (by decide +kernel) ?_
    exact h
  simp only [Prog.bind_op, Prog.bind_ret, Prog.bind_assoc]
  exact h _

/-- Part 26 is where a device at y = 1 hands on what came along z; then chunk 5 from x goes on along z. -/
theorem part26 {Q : α → sProp 𝕄} (hy : c.val / 2 % 2 = y.val) {v2 v5 v8 v9 v10 v11 v16 v19 : BitVec 32} {v518 : BitVec 1} {k : (Σ' (v548 : BitVec 32), BitVec 32) → PG F α}
    (h : ∀ a b, St X κ c (m26 y) ⊢ WP c (k ⟨a, b⟩) Q) :
    St X κ c (m25 y) ⊢ WP c (k0_part26 xM h0 oM h1 aM h2 rM h3 cc0_scratch2 cc0_scratch3 cc0_scratch4 cc0_scratch5 cc0_scratch6 cc0_scratch7 cc0_scratch8 cc0_scratch9 cc0_scratch10 cc0_scratch11 cc0_scratch12 cc0_scratch13 c v2 v5 v8 v9 v10 v11 v16 v19 v518 >>= k) Q := by
  rw [k0_part26_eq_skeleton]
  unfold k0_part26_skel
  simp only [Prog.bind_lift, Prog.bind_op, Prog.bind_ret, Prog.bind_assoc, Prog.pure_eq_ret]
  refine step_guard X κ (P := y.val = 1) (f := block1) (by rw [← hy]; clear * -; revert c; decide +kernel) (fun hb hP h => ?_) ?_
  · simp only [Prog.bind_op, Prog.bind_ret, Prog.bind_assoc] at h ⊢
    have hc := hy.trans hP
    obtain rfl : y = 1 := Fin.ext hP
    refine part5 X κ hc fun _ => part6 X κ hc fun _ _ => part7 X κ hc (part8 X κ hc ?_)
    refine step_recv X κ 21 rfl (credit32 _) (by decide +kernel) ?_
    refine step_f X κ hy 23 (by decide) (Fin.ext (by clear * -; revert c; decide +kernel)) (ck32_eq _ _ (by clear * - hc; revert c; decide +kernel)) (ck32_eq _ _ (by clear * - hc; revert c; decide +kernel)) rfl rfl (by decide +kernel) ?_
    exact h
  simp only [Prog.bind_op, Prog.bind_ret, Prog.bind_assoc]
  refine step_recv X κ 13 rfl (credit32 _) (by clear * -; revert y; decide +kernel) ?_
  refine step_f X κ hy 29 (by decide) (Fin.ext (by clear * -; revert c; decide +kernel)) (ck32_eq _ _ (by clear * -; revert c; decide +kernel)) (ck32_eq _ _ (by clear * -; revert c; decide +kernel)) rfl rfl (by clear * -; revert y; decide +kernel) ?_
  exact h _ _

/-- Part 27 hands chunk 6 from x on along z. -/
theorem part27 {Q : α → sProp 𝕄} (hy : c.val / 2 % 2 = y.val) {v2 v5 v8 v10 v11 v16 v548 c2_i32_440 : BitVec 32} {k : PUnit → PG F α}
    (h : St X κ c (m27 y) ⊢ WP c (k ⟨⟩) Q) :
    St X κ c (m26 y) ⊢ WP c (k0_part27 xM h0 oM h1 aM h2 rM h3 cc0_scratch2 cc0_scratch3 cc0_scratch4 cc0_scratch5 cc0_scratch6 cc0_scratch7 cc0_scratch8 cc0_scratch9 cc0_scratch10 cc0_scratch11 cc0_scratch12 cc0_scratch13 c v2 v5 v8 v10 v11 v16 v548 c2_i32_440 >>= k) Q := by
  rw [k0_part27_eq_skeleton]
  unfold k0_part27_skel
  simp only [Prog.bind_lift, Prog.bind_op, Prog.bind_ret, Prog.bind_assoc, Prog.pure_eq_ret]
  refine step_recv X κ 14 rfl (credit32 _) (by clear * -; revert y; decide +kernel) ?_
  refine step_f X κ hy 30 (by decide) (Fin.ext (by clear * -; revert c; decide +kernel)) (ck32_eq _ _ (by clear * -; revert c; decide +kernel)) (ck32_eq _ _ (by clear * -; revert c; decide +kernel)) rfl rfl (by clear * -; revert y; decide +kernel) ?_
  exact h

/-- Part 28 hands chunk 7 from x on along z and waits for chunk 2 from x. -/
theorem part28 {Q : α → sProp 𝕄} (hy : c.val / 2 % 2 = y.val) {v2 v5 v8 v10 v11 v16 : BitVec 32} {k : BitVec 32 → PG F α}
    (h : ∀ a, St X κ c (m28 y) ⊢ WP c (k a) Q) :
    St X κ c (m27 y) ⊢ WP c (k0_part28 xM h0 oM h1 aM h2 rM h3 cc0_scratch2 cc0_scratch3 cc0_scratch4 cc0_scratch5 cc0_scratch6 cc0_scratch7 cc0_scratch8 cc0_scratch9 cc0_scratch10 cc0_scratch11 cc0_scratch12 cc0_scratch13 c v2 v5 v8 v10 v11 v16 >>= k) Q := by
  rw [k0_part28_eq_skeleton]
  unfold k0_part28_skel
  simp only [Prog.bind_lift, Prog.bind_op, Prog.bind_ret, Prog.bind_assoc, Prog.pure_eq_ret]
  refine step_recv X κ 15 rfl (credit32 _) (by clear * -; revert y; decide +kernel) ?_
  refine step_f X κ hy 31 (by decide) (Fin.ext (by clear * -; revert c; decide +kernel)) (ck32_eq _ _ (by clear * -; revert c; decide +kernel)) (ck32_eq _ _ (by clear * -; revert c; decide +kernel)) rfl rfl (by clear * -; revert y; decide +kernel) ?_
  refine step_recv X κ 10 rfl (credit32 _) (by clear * -; revert y; decide +kernel) ?_
  exact h _

/-- Part 29 waits for chunks 3 and 4 from x. -/
theorem part29 {Q : α → sProp 𝕄} (hy : c.val / 2 % 2 = y.val) {v2 v5 v8 v9 v10 v19 v612 : BitVec 32} {k : PUnit → PG F α}
    (h : St X κ c (m29 y) ⊢ WP c (k ⟨⟩) Q) :
    St X κ c (m28 y) ⊢ WP c (k0_part29 xM h0 oM h1 aM h2 rM h3 cc0_scratch2 cc0_scratch3 cc0_scratch4 cc0_scratch5 cc0_scratch6 cc0_scratch7 cc0_scratch8 cc0_scratch9 cc0_scratch10 cc0_scratch11 cc0_scratch12 cc0_scratch13 c v2 v5 v8 v9 v10 v19 v612 >>= k) Q := by
  rw [k0_part29_eq_skeleton]
  unfold k0_part29_skel
  simp only [Prog.bind_lift, Prog.bind_op, Prog.bind_ret, Prog.bind_assoc, Prog.pure_eq_ret]
  refine step_recv X κ 11 rfl (credit32 _) (by clear * -; revert y; decide +kernel) ?_
  refine step_recv X κ 12 rfl (credit32 _) (by clear * -; revert y; decide +kernel) ?_
  exact h

/-- Part 30 waits for both chunks handed on along y and the first along x. -/
theorem part30 {Q : α → sProp 𝕄} (hy : c.val / 2 % 2 = y.val) {v2 v5 v8 v9 v10 v19 v23 : BitVec 32} {k : (Σ' (v673 : BitVec 32), BitVec 32) → PG F α}
    (h : ∀ a b, St X κ c (m30 y) ⊢ WP c (k ⟨a, b⟩) Q) :
    St X κ c (m29 y) ⊢ WP c (k0_part30 xM h0 oM h1 aM h2 rM h3 cc0_scratch2 cc0_scratch3 cc0_scratch4 cc0_scratch5 cc0_scratch6 cc0_scratch7 cc0_scratch8 cc0_scratch9 cc0_scratch10 cc0_scratch11 cc0_scratch12 cc0_scratch13 c v2 v5 v8 v9 v10 v19 v23 >>= k) Q := by
  rw [k0_part30_eq_skeleton]
  unfold k0_part30_skel
  simp only [Prog.bind_lift, Prog.bind_op, Prog.bind_ret, Prog.bind_assoc, Prog.pure_eq_ret]
  refine step_recv X κ 22 rfl (credit32 _) (by clear * -; revert y; decide +kernel) ?_
  refine step_recv X κ 23 rfl (credit32 _) (by clear * -; revert y; decide +kernel) ?_
  refine step_recv X κ 24 rfl (credit32 _) (by clear * -; revert y; decide +kernel) ?_
  exact h _ _

/-- Part 31 waits for the other two chunks handed on along x. -/
theorem part31 {Q : α → sProp 𝕄} (hy : c.val / 2 % 2 = y.val) {v2 v5 v8 v10 v11 v23 v673 c384_i32_545 : BitVec 32} {k : (Σ' (v702 : BitVec 32), BitVec 32) → PG F α}
    (h : ∀ a b, St X κ c (m31 y) ⊢ WP c (k ⟨a, b⟩) Q) :
    St X κ c (m30 y) ⊢ WP c (k0_part31 xM h0 oM h1 aM h2 rM h3 cc0_scratch2 cc0_scratch3 cc0_scratch4 cc0_scratch5 cc0_scratch6 cc0_scratch7 cc0_scratch8 cc0_scratch9 cc0_scratch10 cc0_scratch11 cc0_scratch12 cc0_scratch13 c v2 v5 v8 v10 v11 v23 v673 c384_i32_545 >>= k) Q := by
  rw [k0_part31_eq_skeleton]
  unfold k0_part31_skel
  simp only [Prog.bind_lift, Prog.bind_op, Prog.bind_ret, Prog.bind_assoc, Prog.pure_eq_ret]
  refine step_recv X κ 25 rfl (credit32 _) (by clear * -; revert y; decide +kernel) ?_
  refine step_recv X κ 26 rfl (credit32 _) (by clear * -; revert y; decide +kernel) ?_
  exact h _ _

/-- Part 32 waits for three chunks handed on along z. -/
theorem part32 {Q : α → sProp 𝕄} (hy : c.val / 2 % 2 = y.val) {v2 v5 v11 v23 v702 v703 : BitVec 32} {k : (Σ' (v733 : BitVec 32), BitVec 32) → PG F α}
    (h : ∀ a b, St X κ c (m32 y) ⊢ WP c (k ⟨a, b⟩) Q) :
    St X κ c (m31 y) ⊢ WP c (k0_part32 xM h0 oM h1 aM h2 rM h3 cc0_scratch2 cc0_scratch3 cc0_scratch4 cc0_scratch5 cc0_scratch6 cc0_scratch7 cc0_scratch8 cc0_scratch9 cc0_scratch10 cc0_scratch11 cc0_scratch12 cc0_scratch13 c v2 v5 v11 v23 v702 v703 >>= k) Q := by
  rw [k0_part32_eq_skeleton]
  unfold k0_part32_skel
  simp only [Prog.bind_lift, Prog.bind_op, Prog.bind_ret, Prog.bind_assoc, Prog.pure_eq_ret]
  refine step_recv X κ 27 rfl (credit32 _) (by clear * -; revert y; decide +kernel) ?_
  refine step_recv X κ 28 rfl (credit32 _) (by clear * -; revert y; decide +kernel) ?_
  refine step_recv X κ 29 rfl (credit32 _) (by clear * -; revert y; decide +kernel) ?_
  exact h _ _

/-- Part 33 waits for the last two chunks handed on along z, and for the first send along y. -/
theorem part33 {Q : α → sProp 𝕄} (hy : c.val / 2 % 2 = y.val) {v2 v5 v11 v23 v733 c768_i32_600 : BitVec 32} {k : PUnit → PG F α}
    (h : St X κ c (m33 y) ⊢ WP c (k ⟨⟩) Q) :
    St X κ c (m32 y) ⊢ WP c (k0_part33 xM h0 oM h1 aM h2 rM h3 cc0_scratch2 cc0_scratch3 cc0_scratch4 cc0_scratch5 cc0_scratch6 cc0_scratch7 cc0_scratch8 cc0_scratch9 cc0_scratch10 cc0_scratch11 cc0_scratch12 cc0_scratch13 c v2 v5 v11 v23 v733 c768_i32_600 >>= k) Q := by
  rw [k0_part33_eq_skeleton]
  unfold k0_part33_skel
  simp only [Prog.bind_lift, Prog.bind_op, Prog.bind_ret, Prog.bind_assoc, Prog.pure_eq_ret]
  refine step_recv X κ 30 rfl (credit32 _) (by clear * -; revert y; decide +kernel) ?_
  refine step_recv X κ 31 rfl (credit32 _) (by clear * -; revert y; decide +kernel) ?_
  refine step_sent X κ hy 0 rfl (credit8 _) (by clear * -; revert y; decide +kernel) ?_
  exact h

/-- Part 34 waits for five sends along y. -/
theorem part34 {Q : α → sProp 𝕄} (hy : c.val / 2 % 2 = y.val) {k : PUnit → PG F α}
    (h : St X κ c (m34 y) ⊢ WP c (k ⟨⟩) Q) :
    St X κ c (m33 y) ⊢ WP c (k0_part34 xM h0 oM h1 aM h2 rM h3 cc0_scratch2 cc0_scratch3 cc0_scratch4 cc0_scratch5 cc0_scratch6 cc0_scratch7 cc0_scratch8 cc0_scratch9 cc0_scratch10 cc0_scratch11 cc0_scratch12 cc0_scratch13  >>= k) Q := by
  rw [k0_part34_eq_skeleton]
  unfold k0_part34_skel
  simp only [Prog.bind_lift, Prog.bind_op, Prog.bind_ret, Prog.bind_assoc, Prog.pure_eq_ret]
  refine step_sent X κ hy 1 rfl (credit8 _) (by clear * -; revert y; decide +kernel) ?_
  refine step_sent X κ hy 2 rfl (credit8 _) (by clear * -; revert y; decide +kernel) ?_
  refine step_sent X κ hy 3 rfl (credit8 _) (by clear * -; revert y; decide +kernel) ?_
  refine step_sent X κ hy 4 rfl (credit8 _) (by clear * -; revert y; decide +kernel) ?_
  refine step_sent X κ hy 5 rfl (credit8 _) (by clear * -; revert y; decide +kernel) ?_
  exact h

/-- Part 35 waits for sends along y and x. -/
theorem part35 {Q : α → sProp 𝕄} (hy : c.val / 2 % 2 = y.val) {k : PUnit → PG F α}
    (h : St X κ c (m35 y) ⊢ WP c (k ⟨⟩) Q) :
    St X κ c (m34 y) ⊢ WP c (k0_part35 xM h0 oM h1 aM h2 rM h3 cc0_scratch2 cc0_scratch3 cc0_scratch4 cc0_scratch5 cc0_scratch6 cc0_scratch7 cc0_scratch8 cc0_scratch9 cc0_scratch10 cc0_scratch11 cc0_scratch12 cc0_scratch13 c >>= k) Q := by
  rw [k0_part35_eq_skeleton]
  unfold k0_part35_skel
  simp only [Prog.bind_lift, Prog.bind_op, Prog.bind_ret, Prog.bind_assoc, Prog.pure_eq_ret]
  refine step_sent X κ hy 6 rfl (credit8 _) (by clear * -; revert y; decide +kernel) ?_
  refine step_sent X κ hy 7 rfl (credit8 _) (by clear * -; revert y; decide +kernel) ?_
  refine step_sent X κ hy 8 rfl (credit8 _) (by clear * -; revert y; decide +kernel) ?_
  refine step_sent X κ hy 9 rfl (credit8 _) (by clear * -; revert y; decide +kernel) ?_
  refine step_sent X κ hy 10 rfl (credit8 _) (by clear * -; revert y; decide +kernel) ?_
  exact h

/-- Part 36 waits for the other sends along x. -/
theorem part36 {Q : α → sProp 𝕄} (hy : c.val / 2 % 2 = y.val) {v13 : BitVec 32} {k : PUnit → PG F α}
    (h : St X κ c (m36 y) ⊢ WP c (k ⟨⟩) Q) :
    St X κ c (m35 y) ⊢ WP c (k0_part36 xM h0 oM h1 aM h2 rM h3 cc0_scratch2 cc0_scratch3 cc0_scratch4 cc0_scratch5 cc0_scratch6 cc0_scratch7 cc0_scratch8 cc0_scratch9 cc0_scratch10 cc0_scratch11 cc0_scratch12 cc0_scratch13 c v13 >>= k) Q := by
  rw [k0_part36_eq_skeleton]
  unfold k0_part36_skel
  simp only [Prog.bind_lift, Prog.bind_op, Prog.bind_ret, Prog.bind_assoc, Prog.pure_eq_ret]
  refine step_sent X κ hy 11 rfl (credit8 _) (by clear * -; revert y; decide +kernel) ?_
  refine step_sent X κ hy 12 rfl (credit8 _) (by clear * -; revert y; decide +kernel) ?_
  refine step_sent X κ hy 13 rfl (credit8 _) (by clear * -; revert y; decide +kernel) ?_
  refine step_sent X κ hy 14 rfl (credit8 _) (by clear * -; revert y; decide +kernel) ?_
  refine step_sent X κ hy 15 rfl (credit8 _) (by clear * -; revert y; decide +kernel) ?_
  exact h

/-- Part 37 waits for four sends along z. -/
theorem part37 {Q : α → sProp 𝕄} (hy : c.val / 2 % 2 = y.val) {v13 : BitVec 32} {k : PUnit → PG F α}
    (h : St X κ c (m37 y) ⊢ WP c (k ⟨⟩) Q) :
    St X κ c (m36 y) ⊢ WP c (k0_part37 xM h0 oM h1 aM h2 rM h3 cc0_scratch2 cc0_scratch3 cc0_scratch4 cc0_scratch5 cc0_scratch6 cc0_scratch7 cc0_scratch8 cc0_scratch9 cc0_scratch10 cc0_scratch11 cc0_scratch12 cc0_scratch13 c v13 >>= k) Q := by
  rw [k0_part37_eq_skeleton]
  unfold k0_part37_skel
  simp only [Prog.bind_lift, Prog.bind_op, Prog.bind_ret, Prog.bind_assoc, Prog.pure_eq_ret]
  refine step_sent X κ hy 16 rfl (credit8 _) (by clear * -; revert y; decide +kernel) ?_
  refine step_sent X κ hy 17 rfl (credit8 _) (by clear * -; revert y; decide +kernel) ?_
  refine step_sent X κ hy 18 rfl (credit8 _) (by clear * -; revert y; decide +kernel) ?_
  refine step_sent X κ hy 19 rfl (credit8 _) (by clear * -; revert y; decide +kernel) ?_
  exact h

/-- Part 38 waits for sends along z and for the sends handed on along y. -/
theorem part38 {Q : α → sProp 𝕄} (hy : c.val / 2 % 2 = y.val) {v13 : BitVec 32} {k : PUnit → PG F α}
    (h : St X κ c (m38 y) ⊢ WP c (k ⟨⟩) Q) :
    St X κ c (m37 y) ⊢ WP c (k0_part38 xM h0 oM h1 aM h2 rM h3 cc0_scratch2 cc0_scratch3 cc0_scratch4 cc0_scratch5 cc0_scratch6 cc0_scratch7 cc0_scratch8 cc0_scratch9 cc0_scratch10 cc0_scratch11 cc0_scratch12 cc0_scratch13 c v13 >>= k) Q := by
  rw [k0_part38_eq_skeleton]
  unfold k0_part38_skel
  simp only [Prog.bind_lift, Prog.bind_op, Prog.bind_ret, Prog.bind_assoc, Prog.pure_eq_ret]
  refine step_sent X κ hy 20 rfl (credit8 _) (by clear * -; revert y; decide +kernel) ?_
  refine step_sent X κ hy 21 rfl (credit8 _) (by clear * -; revert y; decide +kernel) ?_
  refine step_sent X κ hy 22 rfl (credit8 _) (by clear * -; revert y; decide +kernel) ?_
  refine step_sent X κ hy 23 rfl (credit8 _) (by clear * -; revert y; decide +kernel) ?_
  exact h

/-- Part 39 waits for the sends handed on along x and the first along z. -/
theorem part39 {Q : α → sProp 𝕄} (hy : c.val / 2 % 2 = y.val) {v13 : BitVec 32} {k : PUnit → PG F α}
    (h : St X κ c (m39 y) ⊢ WP c (k ⟨⟩) Q) :
    St X κ c (m38 y) ⊢ WP c (k0_part39 xM h0 oM h1 aM h2 rM h3 cc0_scratch2 cc0_scratch3 cc0_scratch4 cc0_scratch5 cc0_scratch6 cc0_scratch7 cc0_scratch8 cc0_scratch9 cc0_scratch10 cc0_scratch11 cc0_scratch12 cc0_scratch13 c v13 >>= k) Q := by
  rw [k0_part39_eq_skeleton]
  unfold k0_part39_skel
  simp only [Prog.bind_lift, Prog.bind_op, Prog.bind_ret, Prog.bind_assoc, Prog.pure_eq_ret]
  refine step_sent X κ hy 24 rfl (credit8 _) (by clear * -; revert y; decide +kernel) ?_
  refine step_sent X κ hy 25 rfl (credit8 _) (by clear * -; revert y; decide +kernel) ?_
  refine step_sent X κ hy 26 rfl (credit8 _) (by clear * -; revert y; decide +kernel) ?_
  refine step_sent X κ hy 27 rfl (credit8 _) (by clear * -; revert y; decide +kernel) ?_
  exact h

end Cert.Proof.K
-- ==== Proof.Body.lean ====
module

public import proofs.«01_k».proof.Proof.Barrier
public import proofs.«01_k».proof.Proof.Parts1
public import proofs.«01_k».proof.Proof.Parts2

@[expose] public section

/-! The whole body: the barrier, the first send, parts 11 to 39 in order, and the last waits. -/

set_option maxHeartbeats 400000

noncomputable section

namespace Cert.Proof.K

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → S1024x1024.Idx → Elt F .bf16) (κ : GSem nD τ sig → ℕ) {c : Dev nD} {α : Type}
  {h0 : xM.IsWhole} {h1 : oM.IsWhole} {h2 : aM.IsWhole} {h3 : rM.IsWhole}

/-- A device's place along y. -/
def yOf (c : Dev nD) : Fin 2 := ⟨c.val / 2 % 2, Nat.mod_lt _ (by decide)⟩

/-- The read of the device's own number. -/
theorem step_id {k : Dev nD → PG F α} {P : sProp 𝕄} {Q : α → sProp 𝕄} (h : P ⊢ WP c (k c) Q) :
    P ⊢ WP c (.op .deviceId k) Q := h.trans (Entails.of_eq (Eq.symm (wp_deviceId _ _ _ _)))

/-- The end of the body. -/
theorem step_ret {P : sProp 𝕄} {Q : α → sProp 𝕄} {a : α} (h : P ⊢ Q a) : P ⊢ WP c (.ret a : PG F α) Q :=
  h.trans (fupd_intro.trans (Entails.of_eq (Eq.symm (wp_ret _ _ _ _ _))))

/-- From what device `c` holds at the start, the body runs to what it holds after the last wait. -/
theorem body (c : Dev nD) :
    Pre X κ c ⊢ WP c (cc0_body (F := F) xM h0 oM h1 aM h2 rM h3 cc0_scratch2 cc0_scratch3 cc0_scratch4 cc0_scratch5 cc0_scratch6 cc0_scratch7 cc0_scratch8 cc0_scratch9 cc0_scratch10 cc0_scratch11 cc0_scratch12 cc0_scratch13) (fun _ => St X κ c (m40 (yOf c))) := by
  have hy : c.val / 2 % 2 = (yOf c).val := rfl
  generalize yOf c = y at hy ⊢
  rw [cc0_body_eq_skeleton]
  unfold cc0_body_skel
  rw [k0_part40_eq_skeleton]
  unfold k0_part40_skel
  rw [k0_part9_eq_skeleton]
  unfold k0_part9_skel
  simp only [semSignalWord, Prog.bind_lift, Prog.bind_op, Prog.bind_ret, Prog.bind_assoc, Prog.pure_eq_ret]
  refine step_id ?_
  simp only [k0_part10_eq_skeleton, k0_part10_skel, semSignalWord, semWaitWord, Prog.bind_lift, Prog.bind_op, Prog.bind_ret, Prog.bind_assoc, Prog.pure_eq_ret]
  refine barrier X κ (Fin.ext (by clear * -; revert c; decide +kernel)) (Fin.ext (by clear * -; revert c; decide +kernel)) (Fin.ext (by clear * -; revert c; decide +kernel)) rfl ?_
  refine step_p1 X κ hy 0 (by decide) (Fin.ext (by clear * -; revert c; decide +kernel)) (ck8_eq _ _ rfl) (ck8_eq _ _ rfl) rfl rfl (by clear * -; revert y; decide +kernel) ?_
  refine part11 X κ hy fun _ => ?_
  refine part12 X κ hy ?_
  refine part13 X κ hy ?_
  refine part14 X κ hy ?_
  refine part15 X κ hy fun _ _ => ?_
  refine part16 X κ hy fun _ => ?_
  refine part17 X κ hy ?_
  refine part18 X κ hy ?_
  refine part19 X κ hy ?_
  refine part20 X κ hy fun _ => ?_
  refine part21 X κ hy fun _ _ => ?_
  refine part22 X κ hy fun _ => ?_
  refine part23 X κ hy fun _ _ => ?_
  refine part24 X κ hy ?_
  refine part25 X κ hy fun _ => ?_
  refine part26 X κ hy fun _ _ => ?_
  refine part27 X κ hy ?_
  refine part28 X κ hy fun _ => ?_
  refine part29 X κ hy ?_
  refine part30 X κ hy fun _ _ => ?_
  refine part31 X κ hy fun _ _ => ?_
  refine part32 X κ hy fun _ _ => ?_
  refine part33 X κ hy ?_
  refine part34 X κ hy ?_
  refine part35 X κ hy ?_
  refine part36 X κ hy ?_
  refine part37 X κ hy ?_
  refine part38 X κ hy ?_
  refine part39 X κ hy ?_
  refine step_sent X κ hy 28 rfl (credit8 _) (by clear * -; revert y; decide +kernel) ?_
  refine step_sent X κ hy 29 rfl (credit8 _) (by clear * -; revert y; decide +kernel) ?_
  refine step_sent X κ hy 30 rfl (credit8 _) (by clear * -; revert y; decide +kernel) ?_
  refine step_sent X κ hy 31 rfl (credit8 _) (by clear * -; revert y; decide +kernel) ?_
  exact step_ret .rfl

end Cert.Proof.K
-- ==== Proof.Buffers.lean ====
module

public import proofs.«01_k».proof.Proof.Barrier

@[expose] public section

/-! Whole buffers cut into the chunks the body works on, and put together again. -/

set_option maxHeartbeats 400000

noncomputable section

namespace Cert.Proof.K

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Families under a mask -/

/-- A family under a mask whose set bits are the values of `e`. -/
theorem fam_emb {n k : ℕ} (Φ : Fin n → sProp 𝕄) {m : ℕ} (e : Fin k → Fin n) (he : Function.Injective e)
    (hm : ∀ i : Fin n, m.testBit i.val = true ↔ ∃ j, e j = i) : fam Φ m = bigSep Finset.univ fun j => Φ (e j) := by
  unfold fam
  refine (bigSep_filter Finset.univ (fun i : Fin n => m.testBit i.val = true) Φ).symm.trans ?_
  rw [show Finset.univ.filter (fun i : Fin n => m.testBit i.val = true) = Finset.univ.map ⟨e, he⟩ from
    Finset.ext fun i => by simp [hm], bigSep_map]
  rfl

/-- A mask cut in two. -/
theorem fam_cut {n : ℕ} (Φ : Fin n → sProp 𝕄) (m a b : ℕ)
    (h : ∀ i : Fin n, m.testBit i.val = (a.testBit i.val || b.testBit i.val) ∧ (a.testBit i.val && b.testBit i.val) = false) :
    fam Φ m = iprop(fam Φ a ∗ fam Φ b) := by
  unfold fam
  rw [← bigSep_sep']
  refine bigSep_congr fun i _ => ?_
  obtain ⟨h1, h2⟩ := h i
  rw [h1]
  cases ha : a.testBit i.val <;> cases hb : b.testBit i.val
  · exact (BI.equiv_iff.mp ⟨(emp_sep (PROP := sProp 𝕄)).1, (emp_sep (PROP := sProp 𝕄)).2⟩).symm
  · exact (BI.equiv_iff.mp ⟨(emp_sep (PROP := sProp 𝕄)).1, (emp_sep (PROP := sProp 𝕄)).2⟩).symm
  · exact (BI.equiv_iff.mp ⟨(sep_emp (PROP := sProp 𝕄)).1, (sep_emp (PROP := sProp 𝕄)).2⟩).symm
  · rw [ha, hb] at h2; cases h2

/-- Two families that agree on the mask. -/
theorem fam_congr {n m : ℕ} {Φ Ψ : Fin n → sProp 𝕄} (h : ∀ i : Fin n, m.testBit i.val = true → Φ i = Ψ i) : fam Φ m = fam Ψ m :=
  bigSep_congr fun i _ => by
    by_cases hb : m.testBit i.val = true
    · rw [if_pos hb, if_pos hb, h i hb]
    · rw [if_neg hb, if_neg hb]

theorem fam_mono {n m : ℕ} {Φ Ψ : Fin n → sProp 𝕄} (h : ∀ i : Fin n, m.testBit i.val = true → Φ i ⊢ Ψ i) : fam Φ m ⊢ fam Ψ m :=
  bigSep_mono fun i _ => (show (_ : sProp 𝕄) ⊢ _ from by
    by_cases hb : m.testBit i.val = true
    · rw [if_pos hb, if_pos hb]; exact h i hb
    · rw [if_neg hb, if_neg hb])

/-! ## Chunks of a whole buffer -/

theorem chunks8 : (Finset.univ : Finset S1024x1024.Idx) = Finset.univ.biUnion fun k : Fin 8 => (rc8 k).set := by
  ext i
  simp only [Finset.mem_univ, Finset.mem_biUnion, true_and, true_iff]
  have h0 : (i 0).val < 1024 := (i 0).isLt
  have h1 : (i 1).val < 1024 := (i 1).isLt
  refine ⟨⟨(i 0).val / 128, by omega⟩, Rect.mem_set_unit.mpr fun a => ?_⟩
  fin_cases a
  · show 128 * ((i 0).val / 128) ≤ (i 0).val ∧ (i 0).val < 128 * ((i 0).val / 128) + 128
    omega
  · show 0 ≤ (i 1).val ∧ (i 1).val < 0 + 1024
    omega
theorem chunks32 : (Finset.univ : Finset S4096x1024.Idx) = Finset.univ.biUnion fun k : Fin 32 => (rc32 k).set := by
  ext i
  simp only [Finset.mem_univ, Finset.mem_biUnion, true_and, true_iff]
  have h0 : (i 0).val < 4096 := (i 0).isLt
  have h1 : (i 1).val < 1024 := (i 1).isLt
  refine ⟨⟨(i 0).val / 128, by omega⟩, Rect.mem_set_unit.mpr fun a => ?_⟩
  fin_cases a
  · show 128 * ((i 0).val / 128) ≤ (i 0).val ∧ (i 0).val < 128 * ((i 0).val / 128) + 128
    omega
  · show 0 ≤ (i 1).val ∧ (i 1).val < 0 + 1024
    omega

theorem apart8 (k k' : Fin 8) (h : k ≠ k') : Disjoint (rc8 k).set (rc8 k').set :=
  Rect.unit_disjoint 0 (by
    show 128 * k.val + 128 ≤ 128 * k'.val ∨ 128 * k'.val + 128 ≤ 128 * k.val
    have : k.val ≠ k'.val := fun e => h (Fin.ext e)
    omega)
theorem apart32 (k k' : Fin 32) (h : k ≠ k') : Disjoint (rc32 k).set (rc32 k').set :=
  Rect.unit_disjoint 0 (by
    show 128 * k.val + 128 ≤ 128 * k'.val ∨ 128 * k'.val + 128 ≤ 128 * k.val
    have : k.val ≠ k'.val := fun e => h (Fin.ext e)
    omega)

/-- The input, the receive buffer, the reduced quarter as their 8 chunks; the result as its 32. -/
theorem x_chunks (q : PosShare TreeShare) (c : Dev nD) (f : S1024x1024.Idx → Elt F .bf16) :
    ((xM.view.loc (c : Thread nD τ)) ↦{q} f : sProp 𝕄) = bigSep Finset.univ fun k : Fin 8 => xPt q k c f := by
  have e : ∀ k : Fin 8, (ck8 xM k).view.set = (rc8 k).set := fun k => View.set_slice_whole cc0_stg0_0 (rc8 k)
  refine (congrArg (fun S => (xM.view.loc (c : Thread nD τ) ↦[S]{q} f : sProp 𝕄)) chunks8).trans ?_
  exact (pointsTo_biUnion Finset.univ _ fun k _ k' _ h => apart8 k k' h).trans (bigSep_congr fun k _ => by rw [← e k])
theorem a_chunks (q : PosShare TreeShare) (c : Dev nD) (f : S1024x1024.Idx → Elt F .bf16) :
    ((aM.view.loc (c : Thread nD τ)) ↦{q} f : sProp 𝕄) = bigSep Finset.univ fun k : Fin 8 => aPt q k c f := by
  have e : ∀ k : Fin 8, (ck8 aM k).view.set = (rc8 k).set := fun k => View.set_slice_whole cc0_scratch0 (rc8 k)
  refine (congrArg (fun S => (aM.view.loc (c : Thread nD τ) ↦[S]{q} f : sProp 𝕄)) chunks8).trans ?_
  exact (pointsTo_biUnion Finset.univ _ fun k _ k' _ h => apart8 k k' h).trans (bigSep_congr fun k _ => by rw [← e k])
theorem r_chunks (q : PosShare TreeShare) (c : Dev nD) (f : S1024x1024.Idx → Elt F .bf16) :
    ((rM.view.loc (c : Thread nD τ)) ↦{q} f : sProp 𝕄) = bigSep Finset.univ fun k : Fin 8 => rPt q k c f := by
  have e : ∀ k : Fin 8, (ck8 rM k).view.set = (rc8 k).set := fun k => View.set_slice_whole cc0_scratch1 (rc8 k)
  refine (congrArg (fun S => (rM.view.loc (c : Thread nD τ) ↦[S]{q} f : sProp 𝕄)) chunks8).trans ?_
  exact (pointsTo_biUnion Finset.univ _ fun k _ k' _ h => apart8 k k' h).trans (bigSep_congr fun k _ => by rw [← e k])
theorem o_chunks (q : PosShare TreeShare) (c : Dev nD) (f : S4096x1024.Idx → Elt F .bf16) :
    ((oM.view.loc (c : Thread nD τ)) ↦{q} f : sProp 𝕄) = bigSep Finset.univ fun k : Fin 32 => oPt q k c f := by
  have e : ∀ k : Fin 32, (ck32 oM k).view.set = (rc32 k).set := fun k => View.set_slice_whole cc0_stg1_0 (rc32 k)
  refine (congrArg (fun S => (oM.view.loc (c : Thread nD τ) ↦[S]{q} f : sProp 𝕄)) chunks32).trans ?_
  exact (pointsTo_biUnion Finset.univ _ fun k _ k' _ h => apart32 k k' h).trans (bigSep_congr fun k _ => by rw [← e k])

variable (X : Dev nD → S1024x1024.Idx → Elt F .bf16)

/-! ## The families of chunks -/

theorem fam8 (Φ : Fin 8 → sProp 𝕄) : fam Φ 255 = bigSep Finset.univ Φ := fam_all Φ (by decide)

/-- The transfers along y, by chunk. -/
abbrev lowT (k : Fin 8) : Fin 32 := ⟨k.val, by omega⟩
theorem fam_low (Φ : Fin 32 → sProp 𝕄) : fam Φ 255 = bigSep Finset.univ fun k : Fin 8 => Φ (lowT k) :=
  fam_emb Φ lowT (by decide) (by decide +kernel)

/-- A chunk as a piece: of the input, of the reduced quarter at either share; a landing as a piece. -/
abbrev pX (k : Fin 8) : Fin 56 := ⟨32 + k.val, by omega⟩
abbrev pR (k : Fin 8) : Fin 56 := ⟨40 + k.val, by omega⟩
abbrev pR' (k : Fin 8) : Fin 56 := ⟨48 + k.val, by omega⟩
abbrev pL (i : Fin 32) : Fin 56 := ⟨i.val, by omega⟩

theorem lo_add (k : Fin 8) : lo8 (32 + k.val) = k ∧ lo8 (40 + k.val) = k ∧ lo8 (48 + k.val) = k := by
  revert k; decide

theorem pcs_x (c : Dev nD) : fam (pcs X c) ((2 ^ 8 - 1) * 2 ^ 32) = bigSep Finset.univ fun k : Fin 8 => xPt fullShare.left k c (X c) := by
  rw [fam_emb (pcs X c) pX (by decide) (by decide +kernel)]
  refine bigSep_congr fun k _ => ?_
  have hk := k.isLt
  unfold pcs
  rw [if_neg (by show ¬ 32 + k.val < 32; omega), if_pos (by show 32 + k.val < 40; omega)]
  show xPt fullShare.left (lo8 (32 + k.val)) c (X c) = _
  rw [(lo_add k).1]
theorem pcs_rl (c : Dev nD) : fam (pcs X c) ((2 ^ 8 - 1) * 2 ^ 40) = bigSep Finset.univ fun k : Fin 8 => rPt fullShare.left k c (rV X c) := by
  rw [fam_emb (pcs X c) pR (by decide) (by decide +kernel)]
  refine bigSep_congr fun k _ => ?_
  have hk := k.isLt
  unfold pcs
  rw [if_neg (by show ¬ 40 + k.val < 32; omega), if_neg (by show ¬ 40 + k.val < 40; omega), if_pos (by show 40 + k.val < 48; omega)]
  show rPt fullShare.left (lo8 (40 + k.val)) c (rV X c) = _
  rw [(lo_add k).2.1]
theorem pcs_rr (c : Dev nD) : fam (pcs X c) ((2 ^ 8 - 1) * 2 ^ 48) = bigSep Finset.univ fun k : Fin 8 => rPt fullShare.right.left k c (rV X c) := by
  rw [fam_emb (pcs X c) pR' (by decide) (by decide +kernel)]
  refine bigSep_congr fun k _ => ?_
  have hk := k.isLt
  unfold pcs
  rw [if_neg (by show ¬ 48 + k.val < 32; omega), if_neg (by show ¬ 48 + k.val < 40; omega), if_neg (by show ¬ 48 + k.val < 48; omega)]
  show rPt fullShare.right.left (lo8 (48 + k.val)) c (rV X c) = _
  rw [(lo_add k).2.2]
theorem pcs_land (c : Dev nD) : fam (pcs X c) (2 ^ 32 - 1) = fam (fun i : Fin 32 => land X i c) all32 := by
  rw [fam_emb (pcs X c) pL (by decide) (by decide +kernel), fam_all _ (by decide +kernel)]
  refine bigSep_congr fun i _ => ?_
  unfold pcs
  rw [if_pos (show i.val < 32 from i.isLt)]
  show land X (Fin.ofNat 32 i.val) c = _
  rw [show Fin.ofNat 32 i.val = i from Fin.ext (Nat.mod_eq_of_lt i.isLt)]

/-- The chunks of the result, by what brings them: an own chunk in the place of each transfer along y. -/
def chunkAt (c : Dev nD) (i : Fin 32) : Fin 32 := if h : i.val < 8 then ownCk c ⟨i.val, h⟩ else landCk i c
theorem chunkAt_bij (c : Dev nD) : Function.Bijective (chunkAt c) :=
  Finite.injective_iff_bijective.mp (by revert c; decide +kernel)

/-- The whole result is the landings of the transfers that bring reduced chunks, and the own chunks. -/
theorem o_cut (c : Dev nD) (f : S4096x1024.Idx → Elt F .bf16) :
    ((oM.view.loc (c : Thread nD τ)) ↦{fullShare} f : sProp 𝕄)
      = iprop((bigSep Finset.univ fun k : Fin 8 => oPt fullShare (ownCk c k) c f)
        ∗ fam (fun i : Fin 32 => oPt fullShare (landCk i c) c f) (all32 - 255)) := by
  rw [o_chunks, bigSep_univ_equiv (Equiv.ofBijective _ (chunkAt_bij c)),
    ← fam_all (m := all32) (fun i => oPt fullShare (Equiv.ofBijective _ (chunkAt_bij c) i) c f) (by decide +kernel),
    fam_cut _ all32 255 (all32 - 255) (by decide +kernel), fam_low]
  refine congrArg₂ (fun A B : sProp 𝕄 => iprop(A ∗ B)) ?_ ?_
  · refine bigSep_congr fun k _ => ?_
    show oPt fullShare (chunkAt c (lowT k)) c f = _
    unfold chunkAt
    rw [dif_pos (show (lowT k).val < 8 from k.isLt)]
  · refine fam_congr fun i hi => ?_
    show oPt fullShare (chunkAt c i) c f = _
    unfold chunkAt
    rw [dif_neg (by revert i; decide +kernel)]

/-! ## At the start -/

/-- Where a transfer lands, without the record that its cell is open. -/
def landMem (i : Fin 32) (c : Dev nD) : sProp 𝕄 :=
  if i.val < 8 then iprop(∃ f, aPt fullShare (lo8 i.val) c f) else iprop(∃ f, oPt fullShare (landCk i c) c f)

theorem share_x (c : Dev nD) (k : Fin 8) (f : S1024x1024.Idx → Elt F .bf16) :
    (xPt fullShare k c f : sProp 𝕄) ⊣⊢ iprop(xPt fullShare.left k c f ∗ xPt fullShare.right k c f) :=
  pointsTo_share (PosShare.mem_left_op_right fullShare)
theorem share_r (q : PosShare TreeShare) (c : Dev nD) (k : Fin 8) (f : S1024x1024.Idx → Elt F .bf16) :
    (rPt q k c f : sProp 𝕄) ⊣⊢ iprop(rPt q.left k c f ∗ rPt q.right k c f) :=
  pointsTo_share (PosShare.mem_left_op_right q)

theorem x_start (c : Dev nD) :
    ((xM.view.loc (c : Thread nD τ)) ↦{fullShare} X c : sProp 𝕄) ⊢ iprop(fam (pcs X c) ((2 ^ 8 - 1) * 2 ^ 32) ∗ fam (xKeep X c) 255) := by
  rw [x_chunks, pcs_x, fam8, ← bigSep_sep']
  exact bigSep_mono fun k _ => (share_x c k (X c)).1
theorem r_start (c : Dev nD) (f : S1024x1024.Idx → Elt F .bf16) :
    ((rM.view.loc (c : Thread nD τ)) ↦{fullShare} f : sProp 𝕄) ⊢ fam (rAny c) 255 := by
  rw [r_chunks, fam8]
  refine bigSep_mono fun k _ => (show (_ : sProp 𝕄) ⊢ _ from ?_)
  unfold rAny
  iintro H; iexists f; iexact H
theorem ao_start (c : Dev nD) (f : S1024x1024.Idx → Elt F .bf16) (g : S4096x1024.Idx → Elt F .bf16) :
    iprop(((aM.view.loc (c : Thread nD τ)) ↦{fullShare} f) ∗ ((oM.view.loc (c : Thread nD τ)) ↦{fullShare} g))
      ⊢ (iprop((bigSep Finset.univ fun i : Fin 32 => landMem i c) ∗ fam (oAny c) 255) : sProp 𝕄) := by
  rw [← fam_all (m := all32) (fun i => landMem i c) (by decide +kernel), fam_cut _ all32 255 (all32 - 255) (by decide +kernel), fam_low,
    a_chunks, o_cut, fam8]
  have ha : (bigSep Finset.univ fun k : Fin 8 => aPt fullShare k c f : sProp 𝕄) ⊢ bigSep Finset.univ fun k : Fin 8 => landMem (lowT k) c :=
    bigSep_mono fun k _ => (show (_ : sProp 𝕄) ⊢ _ from by
      unfold landMem
      rw [if_pos (show (lowT k).val < 8 from k.isLt), show lo8 (lowT k).val = k from Fin.ext (Nat.mod_eq_of_lt k.isLt)]
      iintro H; iexists f; iexact H)
  have hl : fam (fun i : Fin 32 => oPt fullShare (landCk i c) c g) (all32 - 255) ⊢ (fam (fun i : Fin 32 => landMem i c) (all32 - 255) : sProp 𝕄) :=
    fam_mono fun i hi => by
      unfold landMem
      rw [if_neg (by clear * - hi; revert i; decide +kernel)]
      iintro H; iexists g; iexact H
  have ho : (bigSep Finset.univ fun k : Fin 8 => oPt fullShare (ownCk c k) c g : sProp 𝕄) ⊢ bigSep Finset.univ (oAny c) :=
    bigSep_mono fun k _ => (show (_ : sProp 𝕄) ⊢ _ from by
      unfold oAny
      iintro H; iexists g; iexact H)
  iintro ⟨Ha, Ho, Hl⟩
  isplitl [Ha Hl]
  · isplitl [Ha]
    · iapply ha; iexact Ha
    · iapply hl; iexact Hl
  · iapply ho; iexact Ho

/-! ## At the end -/

theorem ends (c : Dev nD) :
    iprop(fam (pcs X c) (2 ^ 56 - 1) ∗ fam (rKeep X c) 255 ∗ fam (own X c) 255 ∗ fam (xKeep X c) 255)
      ⊢ (iprop(((xM.view.loc (c : Thread nD τ)) ↦{fullShare} X c) ∗ ((aM.view.loc (c : Thread nD τ)) ↦{fullShare} X (pk 0 c))
        ∗ ((rM.view.loc (c : Thread nD τ)) ↦{fullShare} rV X c) ∗ ((oM.view.loc (c : Thread nD τ)) ↦{fullShare} outV X c)) : sProp 𝕄) := by
  rw [fam_cut _ (2 ^ 56 - 1) (2 ^ 32 - 1) ((2 ^ 24 - 1) * 2 ^ 32) (by decide +kernel),
    fam_cut _ ((2 ^ 24 - 1) * 2 ^ 32) ((2 ^ 8 - 1) * 2 ^ 32) ((2 ^ 16 - 1) * 2 ^ 40) (by decide +kernel),
    fam_cut _ ((2 ^ 16 - 1) * 2 ^ 40) ((2 ^ 8 - 1) * 2 ^ 40) ((2 ^ 8 - 1) * 2 ^ 48) (by decide +kernel),
    pcs_land, pcs_x, pcs_rl, pcs_rr, fam8, fam8, fam8, fam_cut _ all32 255 (all32 - 255) (by decide +kernel), fam_low,
    x_chunks, a_chunks, r_chunks, o_cut]
  have ha : (bigSep Finset.univ fun k : Fin 8 => land X (lowT k) c : sProp 𝕄) ⊢ bigSep Finset.univ fun k : Fin 8 => aPt fullShare k c (X (pk 0 c)) :=
    bigSep_mono fun k _ => (show (_ : sProp 𝕄) ⊢ _ from by
      unfold land
      rw [if_pos (show (lowT k).val < 8 from k.isLt), show lo8 (lowT k).val = k from Fin.ext (Nat.mod_eq_of_lt k.isLt)])
  have hl : fam (fun i : Fin 32 => land X i c) (all32 - 255) ⊢ (fam (fun i : Fin 32 => oPt fullShare (landCk i c) c (outV X c)) (all32 - 255) : sProp 𝕄) :=
    fam_mono fun i hi => by
      unfold land
      rw [if_neg (by clear * - hi; revert i; decide +kernel)]
  have hx : iprop((bigSep Finset.univ fun k : Fin 8 => xPt fullShare.left k c (X c)) ∗ bigSep Finset.univ (xKeep X c))
      ⊢ (bigSep Finset.univ fun k : Fin 8 => xPt fullShare k c (X c) : sProp 𝕄) := by
    rw [← bigSep_sep']
    exact bigSep_mono fun k _ => (share_x c k (X c)).2
  have hr : iprop((bigSep Finset.univ fun k : Fin 8 => rPt fullShare.left k c (rV X c))
        ∗ (bigSep Finset.univ fun k : Fin 8 => rPt fullShare.right.left k c (rV X c)) ∗ bigSep Finset.univ (rKeep X c))
      ⊢ (bigSep Finset.univ fun k : Fin 8 => rPt fullShare k c (rV X c) : sProp 𝕄) := by
    rw [← bigSep_sep', ← bigSep_sep']
    exact bigSep_mono fun k _ => (sep_mono_right (share_r fullShare.right c k (rV X c)).2).trans (share_r fullShare c k (rV X c)).2
  iintro ⟨⟨⟨Ha, Hl⟩, Hx, Hr1, Hr2⟩, Hr3, Ho, Hx'⟩
  isplitl [Hx Hx']
  · iapply hx; isplitl [Hx] <;> iassumption
  isplitl [Ha]
  · iapply ha; iexact Ha
  isplitl [Hr1 Hr2 Hr3]
  · iapply hr
    isplitl [Hr1]; · iexact Hr1
    isplitl [Hr2] <;> iassumption
  isplitl [Ho]
  · iexact Ho
  · iapply hl; iexact Hl

end Cert.Proof.K
-- ==== Proof.Ends.lean ====
module

public import proofs.«01_k».proof.Proof.Body
public import proofs.«01_k».proof.Proof.Buffers

@[expose] public section

/-! The body between whole buffers: what a device starts with and what it is left with. -/

set_option maxHeartbeats 400000

noncomputable section

namespace Cert.Proof.K

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → S1024x1024.Idx → Elt F .bf16) (κ : GSem nD τ sig → ℕ)

/-! ## The transfer cells' counters -/

/-- The 64 transfer cells' counters at zero, two by two. -/
theorem sems_eq (c : Dev nD) :
    (Pipeline.ownSems0 (Ix := Unit) (Name := ℕ) (U := UU) (Lvl := ℕ) (Val := Elt F) (τ := τ) osem c : sProp 𝕄)
      = bigSep Finset.univ fun i : Fin 32 => iprop(semVal (sCell i c) 0 ∗ semVal (rCell i c) 0) := by
  show (bigSep Finset.univ fun p : Fin 32 × Fin 2 => semVal ((c : Thread nD τ), osem p) 0 : sProp 𝕄) = _
  rw [bigSep_univ_prod]
  exact bigSep_congr fun i _ => BI.bigSep_fin_two (fun k : Fin 2 => (semVal ((c : Thread nD τ), osem (i, k)) 0 : sProp 𝕄))

/-! ## The start -/

/-- What a device holds for transfer `i`, once its two cells are open. -/
def opened (c : Dev nD) (i : Fin 32) : sProp 𝕄 :=
  iprop((dutyTok ER (sCell i c) 0 0 ∗ dutyTok ER (rCell i (peer i c)) 0 0) ∗ cred (tallyAt (rCell i c) () N)
    ∗ (atPos ER (sCell i c) 0 ∅ 0 ∗ reached ER (sCell i c) 0) ∗ (atPos ER (rCell i c) 0 ∅ 0 ∗ reached ER (rCell i c) 0))

/-- What a device holds at the start beside what it owes and its buffers. -/
def Start (c : Dev nD) : sProp 𝕄 :=
  iprop(levAts L lv ∗ invs X κ
    ∗ (bigSep Finset.univ fun d : Fin 3 => iprop(dutyTok ER (barCell (pk d c)) 0 d ∗ reached ER (barCell (pk d c)) 0))
    ∗ cred (tallyAt (barCell c) () 3) ∗ atPos ER (barCell c) 0 ∅ 0 ∗ bigSep Finset.univ (opened c))

theorem pre_intro (c : Dev nD) (f r : S1024x1024.Idx → Elt F .bf16) (g : S4096x1024.Idx → Elt F .bf16) :
    iprop(Start X κ c ∗ (∃ W, owes (c : Thread nD τ) (O₀ c) W) ∗ ((xM.view.loc (c : Thread nD τ)) ↦{fullShare} X c)
      ∗ ((oM.view.loc (c : Thread nD τ)) ↦{fullShare} g) ∗ ((aM.view.loc (c : Thread nD τ)) ↦{fullShare} f)
      ∗ ((rM.view.loc (c : Thread nD τ)) ↦{fullShare} r)) ⊢ Pre X κ c := by
  have hsplit : (bigSep Finset.univ (opened c) : sProp 𝕄)
      ⊢ iprop(bigSep Finset.univ (tok c) ∗ bigSep Finset.univ (due c) ∗ bigSep Finset.univ fun i : Fin 32 => reached ER (rCell i c) 0) := by
    rw [← bigSep_sep', ← bigSep_sep']
    refine bigSep_mono fun i _ => (show (_ : sProp 𝕄) ⊢ _ from ?_)
    unfold opened tok due
    iintro ⟨⟨Ht, Ht'⟩, Hc, ⟨Ha, Hr⟩, Ha', Hr'⟩
    isplitl [Ht Ht' Ha Hr]
    · isplitl [Ht]; · iexact Ht
      isplitl [Ht']; · iexact Ht'
      isplitl [Hr]; · iexact Hr
      iexact Ha
    isplitl [Hc Ha']
    · isplitl [Hc]; · iexact Hc
      iexact Ha'
    iexact Hr'
  have hland : iprop((bigSep Finset.univ fun i : Fin 32 => landMem i c) ∗ bigSep Finset.univ fun i : Fin 32 => reached ER (rCell i c) 0)
      ⊢ (bigSep Finset.univ fun i : Fin 32 => landAny i c : sProp 𝕄) := by
    rw [← bigSep_sep']
    exact bigSep_mono fun i _ => (show (_ : sProp 𝕄) ⊢ _ from .rfl)
  unfold Start Pre still
  iintro ⟨⟨Hl, Hi, Hd, Hc, Ha, Ht⟩, HO, Hx, Ho, Hf, Hr⟩
  ihave Hx := (x_start X c) $$ Hx
  icases Hx with ⟨Hx1, Hx2⟩
  ihave Hr := (r_start c r) $$ Hr
  ihave Ho := (ao_start c f g) $$ [Hf Ho]
  · isplitl [Hf] <;> iassumption
  icases Ho with ⟨Hm, Ho⟩
  ihave Ht := hsplit $$ Ht
  icases Ht with ⟨Ht, Hdue, Hre⟩
  isplitl [Hl]; · iexact Hl
  isplitl [Hi]; · iexact Hi
  isplitl [HO]; · iexact HO
  isplitl [Hd]; · iexact Hd
  isplitl [Hc]; · iexact Hc
  isplitl [Ha]; · iexact Ha
  isplitl [Hm Hre]
  · iapply hland; isplitl [Hm] <;> iassumption
  isplitl [Ht]; · iexact Ht
  isplitl [Hdue]; · iexact Hdue
  isplitl [Hx1]; · iexact Hx1
  isplitl [Hr]; · iexact Hr
  isplitl [Ho]; · iexact Ho
  iexact Hx2

/-! ## The end -/

/-- A cell whose round is over gives its counter back, at zero. -/
theorem close {g : GSem nD τ sig} (hg : g ∈ barCells ∪ scCells) :
    iprop(invs X κ ∗ atPos ER g (0 + 1) ∅ 0) ⊢ (|={Set.univ}=> semVal g 0 : sProp 𝕄) :=
  (sep_mono_left (invs_at X κ hg)).trans (Rounds.cell_close ER (Rd X) (Set.mem_univ (κ g)) id (R := 0 + 1) (duties_later X g))

theorem close_all (c : Dev nD) :
    iprop(invs X κ ∗ fam (sdone c) all32 ∗ fam (rdone c) all32)
      ⊢ (|={Set.univ}=> Pipeline.ownSems0 (Ix := Unit) (Name := ℕ) (U := UU) (Lvl := ℕ) (Val := Elt F) (τ := τ) osem c : sProp 𝕄) := by
  rw [fam_all (m := all32) (sdone c) (by decide +kernel), fam_all (m := all32) (rdone c) (by decide +kernel), sems_eq, ← bigSep_sep']
  refine BIBase.Entails.trans ?_ (bigSep_fupd _ _)
  refine bigSep_with_persistent (R := invs X κ) fun i _ => (show (_ : sProp 𝕄) ⊢ _ from ?_)
  unfold sdone rdone
  iintro ⟨#Hi, Hs, Hr⟩
  imod (close X κ (s_mem i c)) $$ [Hs] with Hs
  · isplitr; · iexact Hi
    iexact Hs
  imod (close X κ (r_mem i c)) $$ [Hr] with Hr
  · isplitr; · iexact Hi
    iexact Hr
  imodintro
  isplitl [Hs] <;> iassumption

/-- What a device is left with. -/
def Fin' (c : Dev nD) : sProp 𝕄 :=
  iprop((∃ W, owes (c : Thread nD τ) (0 : CellTallies nD τ sig Unit) W) ∗ ((xM.view.loc (c : Thread nD τ)) ↦{fullShare} X c)
    ∗ ((oM.view.loc (c : Thread nD τ)) ↦{fullShare} outV X c) ∗ ((aM.view.loc (c : Thread nD τ)) ↦{fullShare} X (pk 0 c))
    ∗ ((rM.view.loc (c : Thread nD τ)) ↦{fullShare} rV X c)
    ∗ Pipeline.ownSems0 (Ix := Unit) (Name := ℕ) (U := UU) (Lvl := ℕ) (Val := Elt F) (τ := τ) osem c ∗ semVal (barCell c) 0)

theorem m40_S : ∀ y, (m40 y).S = 0 := by decide +kernel
theorem m40_E : ∀ y, (m40 y).E = all32 := by decide +kernel
theorem m40_G : ∀ y, (m40 y).G = all32 := by decide +kernel
theorem m40_P : ∀ y, (m40 y).P = 2 ^ 56 - 1 := by decide +kernel
theorem m40_K : ∀ y, (m40 y).K = 255 := by decide +kernel
theorem m40_O : ∀ y, (m40 y).O = 255 := by decide +kernel

theorem finish (c : Dev nD) : St X κ c (m40 (yOf c)) ⊢ (|={Set.univ}=> Fin' X c : sProp 𝕄) := by
  unfold St Fin'
  rw [m40_S, m40_E, m40_G, m40_P, m40_K, m40_O, dueT_zero]
  iintro ⟨-, #Hi, HO, -, -, HE, -, HG, HP, -, HK, -, HOo, HX, HB⟩
  imod (close_all X κ c) $$ [HE HG] with Hs
  · isplitr; · iexact Hi
    isplitl [HE] <;> iassumption
  imod (close X κ (bar_mem c)) $$ [HB] with HB
  · isplitr; · iexact Hi
    iexact HB
  ihave H := (ends X c) $$ [HP HK HOo HX]
  · isplitl [HP]; · iexact HP
    isplitl [HK]; · iexact HK
    isplitl [HOo] <;> iassumption
  icases H with ⟨Hx, Ha, Hr, Ho⟩
  imodintro
  isplitl [HO]; · iexact HO
  isplitl [Hx]; · iexact Hx
  isplitl [Ho]; · iexact Ho
  isplitl [Ha]; · iexact Ha
  isplitl [Hr]; · iexact Hr
  isplitl [Hs] <;> iassumption

/-- From the start to the end. -/
theorem run_body {h0 : xM.IsWhole} {h1 : oM.IsWhole} {h2 : aM.IsWhole} {h3 : rM.IsWhole} (c : Dev nD) :
    Pre X κ c ⊢ WP c (cc0_body (F := F) xM h0 oM h1 aM h2 rM h3 cc0_scratch2 cc0_scratch3 cc0_scratch4 cc0_scratch5 cc0_scratch6 cc0_scratch7 cc0_scratch8 cc0_scratch9 cc0_scratch10 cc0_scratch11 cc0_scratch12 cc0_scratch13) (fun _ => Fin' X c) :=
  ((body X κ c).trans (wp_mono _ _ _ fun _ => finish X κ c)).trans (wp_fupd _ _ _ _ _)

end Cert.Proof.K
-- ==== Proof.Deal.lean ====
module

public import proofs.«01_k».proof.Proof.Ends

@[expose] public section

/-! What the launch deals: every cell's record, its tokens to the devices that pay them, its credit to the device that
    waits on it; and the transfer cells opened on entry to the kernel. -/

set_option maxHeartbeats 400000

noncomputable section

namespace Cert.Proof.K

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → S1024x1024.Idx → Elt F .bf16)

/-! ## The cells, listed -/

theorem osem_inj : Function.Injective osem := by decide +kernel
theorem sR_inj : Function.Injective sR := by decide +kernel

def barEmb : Dev nD ↪ GSem nD τ sig := ⟨fun c => barCell c, fun _ _ h => congrArg (fun g : GSem nD τ sig => g.1.1) h⟩
def scEmb : Dev nD × (Fin 32 × Fin 2) ↪ GSem nD τ sig :=
  ⟨fun p => ((p.1 : Thread nD τ), osem p.2), fun _ _ h =>
    Prod.ext (congrArg (fun g : GSem nD τ sig => g.1.1) h) (osem_inj (congrArg Prod.snd h))⟩

theorem barCells_eq : barCells = Finset.univ.map barEmb := by
  unfold barCells; rw [Finset.map_eq_image]; rfl
theorem scCells_eq : scCells = Finset.univ.map scEmb := by
  unfold scCells; rw [Finset.map_eq_image]; rfl

theorem disjoint_cells : Disjoint barCells scCells := by
  rw [barCells_eq, scCells_eq, Finset.disjoint_left]
  rintro g h₁ h₂
  obtain ⟨c, -, rfl⟩ := Finset.mem_map.mp h₁
  obtain ⟨p, -, h⟩ := Finset.mem_map.mp h₂
  exact absurd (congrArg Prod.snd h) (fun e => by cases e)

/-- A family over the barrier cells, device by device; over the transfer cells, device by device and two by two. -/
theorem over_bar (Φ : GSem nD τ sig → sProp 𝕄) : bigSep barCells Φ = bigSep Finset.univ fun c : Dev nD => Φ (barCell c) := by
  rw [barCells_eq]; exact BI.bigSep_map barEmb
theorem over_sc (Φ : GSem nD τ sig → sProp 𝕄) :
    bigSep scCells Φ = bigSep Finset.univ fun c : Dev nD => bigSep Finset.univ fun i : Fin 32 => iprop(Φ (sCell i c) ∗ Φ (rCell i c)) := by
  rw [scCells_eq]
  refine (BI.bigSep_map scEmb).trans ?_
  rw [bigSep_univ_prod]
  refine bigSep_congr fun c _ => ?_
  rw [bigSep_univ_prod]
  exact bigSep_congr fun i _ => BI.bigSep_fin_two (fun k : Fin 2 => Φ ((c : Thread nD τ), osem (i, k)))

/-! ## The duties' tokens -/

def barTokEmb : Dev nD × Fin 3 ↪ GSem nD τ sig × ℕ × Fin 3 :=
  ⟨fun p => (barCell p.1, 0, p.2), fun _ _ h =>
    Prod.ext (congrArg (fun t : GSem nD τ sig × ℕ × Fin 3 => t.1.1.1) h) (congrArg (fun t : GSem nD τ sig × ℕ × Fin 3 => t.2.2) h)⟩
def scTokEmb : GSem nD τ sig ↪ GSem nD τ sig × ℕ × Fin 3 := ⟨fun g => (g, 0, 0), fun _ _ h => congrArg Prod.fst h⟩

/-- Every duty of the one round: three on a barrier cell, one on a transfer cell. -/
def toks : Finset (GSem nD τ sig × ℕ × Fin 3) := Finset.univ.map barTokEmb ∪ scCells.map scTokEmb

theorem disjoint_toks : Disjoint (Finset.univ.map barTokEmb) (scCells.map scTokEmb) := by
  rw [Finset.disjoint_left]
  rintro t h₁ h₂
  obtain ⟨p, -, rfl⟩ := Finset.mem_map.mp h₁
  obtain ⟨g, hg, h⟩ := Finset.mem_map.mp h₂
  have e : g = barCell p.1 := congrArg Prod.fst h
  exact Finset.disjoint_left.mp disjoint_cells (Finset.mem_image_of_mem _ (Finset.mem_univ p.1)) (e ▸ hg)

/-- The tokens of the barrier duties a device pays; of its transfers' duties. -/
def barToks (c : Dev nD) : sProp 𝕄 := bigSep Finset.univ fun d : Fin 3 => dutyTok ER (barCell (pk d c)) 0 d
def scToks (c : Dev nD) : sProp 𝕄 :=
  bigSep Finset.univ fun i : Fin 32 => iprop(dutyTok ER (sCell i c) 0 0 ∗ dutyTok ER (rCell i (peer i c)) 0 0)

theorem bar_around : (bigSep (Finset.univ.map barTokEmb) fun t => (dutyTok ER t.1 t.2.1 t.2.2 : sProp 𝕄)) = bigSep Finset.univ barToks := by
  refine (BI.bigSep_map barTokEmb).trans ?_
  rw [bigSep_univ_prod, Pipeline.bigSep_univ_comm]
  unfold barToks
  rw [Pipeline.bigSep_univ_comm fun (c : Dev nD) (d : Fin 3) => (dutyTok ER (barCell (pk d c)) 0 d : sProp 𝕄)]
  exact bigSep_congr fun d _ => bigSep_univ_equiv (pkE d) (fun c : Dev nD => (dutyTok ER (barCell c) 0 d : sProp 𝕄))

theorem sc_around : (bigSep (scCells.map scTokEmb) fun t => (dutyTok ER t.1 t.2.1 t.2.2 : sProp 𝕄)) = bigSep Finset.univ scToks := by
  refine (BI.bigSep_map scTokEmb).trans ?_
  rw [over_sc, Pipeline.bigSep_univ_comm]
  unfold scToks
  rw [Pipeline.bigSep_univ_comm (fun (c : Dev nD) (i : Fin 32) => iprop(dutyTok ER (sCell i c) 0 0 ∗ dutyTok ER (rCell i (peer i c)) 0 0))]
  refine bigSep_congr fun i _ => ?_
  rw [bigSep_sep', bigSep_sep']
  exact congrArg (fun B : sProp 𝕄 => iprop((bigSep Finset.univ fun c : Dev nD => dutyTok ER (sCell i c) 0 0) ∗ B))
    (bigSep_univ_equiv (pkE (kd i)) (fun c : Dev nD => (dutyTok ER (rCell i c) 0 0 : sProp 𝕄)))

theorem toks_around : (bigSep toks fun t => (dutyTok ER t.1 t.2.1 t.2.2 : sProp 𝕄)) ⊢ iprop(bigSep Finset.univ barToks ∗ bigSep Finset.univ scToks) := by
  unfold toks
  rw [BI.bigSep_union disjoint_toks, bar_around, sc_around]
  exact .rfl

/-! ## The credit -/

theorem all32_bit (i : Fin 32) : all32.testBit i.val = true := by revert i; decide +kernel

theorem dueT_all (c : Dev nD) : dueT all32 c = ∑ i : Fin 32, tallyAt (rCell i (peer i c)) () N := by
  unfold dueT
  exact Finset.sum_congr rfl fun i _ => if_pos (all32_bit i)

/-- Over all devices, the barrier units along one axis come to one a cell. -/
theorem sum_bar (k : Fin 3) (c : Dev nD) : ∑ d : Dev nD, (tallyAt (barCell (pk k d)) () 1 : CellTallies nD τ sig Unit) (barCell c) () = 1 := by
  rw [Finset.sum_eq_single (pk k c), tallyAt_apply, pk_pk, if_pos ⟨rfl, rfl⟩]
  · intro d _ hd
    rw [tallyAt_apply, if_neg]
    rintro ⟨h, -⟩
    have e : c = pk k d := congrArg (fun g : GSem nD τ sig => g.1.1) h
    exact hd (by rw [e, pk_pk])
  · exact fun h => absurd (Finset.mem_univ _) h

theorem bar_dueT (d c : Dev nD) : dueT all32 d (barCell c) () = 0 := by
  rw [dueT_all, Finset.sum_apply, Finsupp.finset_sum_apply]
  refine Finset.sum_eq_zero fun i _ => ?_
  rw [tallyAt_apply, if_neg]
  rintro ⟨h, -⟩
  exact absurd (congrArg Prod.snd h) (fun e => by cases e)

theorem r_bar (k : Fin 3) (i : Fin 32) (d c : Dev nD) : (tallyAt (barCell (pk k d)) () 1 : CellTallies nD τ sig Unit) (rCell i c) () = 0 := by
  rw [tallyAt_apply, if_neg]
  rintro ⟨h, -⟩
  exact absurd (congrArg Prod.snd h) (fun e => by cases e)

/-- Over all devices, the transfers owed to one receiving cell come to one. -/
theorem sum_r (i : Fin 32) (c : Dev nD) : ∑ d : Dev nD, dueT all32 d (rCell i c) () = N := by
  rw [Finset.sum_eq_single (peer i c), dueT_all, Finset.sum_apply, Finsupp.finset_sum_apply, Finset.sum_eq_single i, tallyAt_apply, peer_peer,
    if_pos ⟨rfl, rfl⟩]
  · intro j _ hj
    rw [tallyAt_apply, if_neg]
    rintro ⟨h, -⟩
    have e : sR i = sR j := SemLoc.dma.inj (congrArg Prod.snd h)
    exact hj (sR_inj e).symm
  · exact fun h => absurd (Finset.mem_univ _) h
  · intro d _ hd
    rw [dueT_all, Finset.sum_apply, Finsupp.finset_sum_apply]
    refine Finset.sum_eq_zero fun j _ => ?_
    rw [tallyAt_apply, if_neg]
    rintro ⟨h, -⟩
    have e : sR i = sR j := SemLoc.dma.inj (congrArg Prod.snd h)
    obtain rfl := sR_inj e
    have e : c = peer i d := congrArg (fun g : GSem nD τ sig => g.1.1) h
    exact hd (by rw [e, peer_peer])
  · exact fun h => absurd (Finset.mem_univ _) h

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same]
  unfold O₀
  simp only [Pi.add_apply, Finsupp.add_apply, bar_dueT, Finset.sum_add_distrib, sum_bar, Finset.sum_const_zero]

theorem launch_r (i : Fin 32) (c : Dev nD) :
    tallyOn (rCell i c) (launchCredit (Pipeline.owing O₀) 0 (rCell i c)) = (tallyAt (rCell i c) () N : CellTallies nD τ sig Unit) := by
  unfold tallyAt; refine congrArg _ (Finsupp.ext fun u => ?_); cases u
  rw [Pipeline.launchCredit_owing, Finsupp.single_eq_same]
  unfold O₀
  simp only [Pi.add_apply, Finsupp.add_apply, r_bar, Finset.sum_add_distrib, sum_r, Finset.sum_const_zero, Nat.add_zero]

def rEmb : Fin 32 ↪ SemLoc sig := ⟨fun i => .dma (sR i), fun _ _ h => sR_inj (SemLoc.dma.inj h)⟩

/-- A device's credit: three units at its barrier, one transfer's at each receiving cell. -/
theorem creds (c : Dev nD) :
    (Pipeline.launchCred O₀ c : sProp 𝕄) ⊢ iprop(cred (tallyAt (barCell c) () 3) ∗ bigSep Finset.univ fun i : Fin 32 => cred (tallyAt (rCell i c) () N)) := by
  unfold Pipeline.launchCred
  rw [bigSep_univ_at _ (SemLoc.reg barS), launch_bar]
  refine sep_mono_right ?_
  refine BIBase.Entails.trans (BI.bigSep_subset (t := Finset.univ.map rEmb) ?_) ?_
  · intro sm h
    obtain ⟨i, -, rfl⟩ := Finset.mem_map.mp h
    exact Finset.mem_erase.mpr ⟨fun e => (by cases e), Finset.mem_univ _⟩
  · refine Entails.of_eq ((BI.bigSep_map rEmb).trans (bigSep_congr fun i _ => ?_))
    exact congrArg cred (launch_r i c)

/-! ## Opening the transfer cells -/

/-- What a device keeps from launch to the kernel. -/
def Kept (c : Dev nD) : sProp 𝕄 :=
  iprop(∃ κ, invs X κ
    ∗ (bigSep Finset.univ fun d : Fin 3 => iprop(dutyTok ER (barCell (pk d c)) 0 d ∗ reached ER (barCell (pk d c)) 0))
    ∗ cred (tallyAt (barCell c) () 3) ∗ atPos ER (barCell c) 0 ∅ 0
    ∗ (bigSep Finset.univ fun i : Fin 32 => iprop(openTok ER (sCell i c) ∗ openTok ER (rCell i c)))
    ∗ scToks c ∗ bigSep Finset.univ fun i : Fin 32 => cred (tallyAt (rCell i c) () N))

theorem open_one (κ : GSem nD τ sig → ℕ) {g : GSem nD τ sig} (hg : g ∈ barCells ∪ scCells) :
    iprop(invs X κ ∗ openTok ER g ∗ semVal g 0) ⊢ (|={Set.univ}=> iprop(atPos ER g 0 ∅ 0 ∗ reached ER g 0) : sProp 𝕄) :=
  (sep_mono_left (invs_at X κ hg)).trans (Rounds.cell_open ER (Rd X) (Set.mem_univ (κ g)))

theorem open_all (κ : GSem nD τ sig → ℕ) (c : Dev nD) :
    iprop(invs X κ ∗ (bigSep Finset.univ fun i : Fin 32 => iprop(openTok ER (sCell i c) ∗ openTok ER (rCell i c))) ∗ scToks c
        ∗ (bigSep Finset.univ fun i : Fin 32 => cred (tallyAt (rCell i c) () N))
        ∗ bigSep Finset.univ fun i : Fin 32 => iprop(semVal (sCell i c) 0 ∗ semVal (rCell i c) 0))
      ⊢ (|={Set.univ}=> bigSep Finset.univ (opened c) : sProp 𝕄) := by
  unfold scToks
  rw [← bigSep_sep', ← bigSep_sep', ← bigSep_sep']
  refine BIBase.Entails.trans ?_ (bigSep_fupd _ _)
  refine bigSep_with_persistent (R := invs X κ) fun i _ => (show (_ : sProp 𝕄) ⊢ _ from ?_)
  unfold opened
  iintro ⟨#Hi, ⟨Hos, Hor⟩, Ht, Hc, Hs, Hr⟩
  imod (open_one X κ (s_mem i c)) $$ [Hos Hs] with Hs
  · isplitr; · iexact Hi
    isplitl [Hos] <;> iassumption
  imod (open_one X κ (r_mem i c)) $$ [Hor Hr] with Hr
  · isplitr; · iexact Hi
    isplitl [Hor] <;> iassumption
  imodintro
  isplitl [Ht]; · iexact Ht
  isplitl [Hc]; · iexact Hc
  isplitl [Hs]; · iexact Hs
  iexact Hr

theorem hopen (c : Dev nD) :
    iprop(Kept X c ∗ Pipeline.ownSems0 (Ix := Unit) (Name := ℕ) (U := UU) (Lvl := ℕ) (Val := Elt F) (τ := τ) osem c ∗ levAts L lv)
      ⊢ (|={Set.univ}=> ∃ κ, Start X κ c : sProp 𝕄) := by
  rw [sems_eq]
  unfold Kept
  iintro ⟨⟨%κ, #Hi, Hd, Hc, Ha, Ho, Ht, Hcr⟩, Hs, Hl⟩
  imod (open_all X κ c) $$ [Ho Ht Hcr Hs] with H
  · isplitr; · iexact Hi
    isplitl [Ho]; · iexact Ho
    isplitl [Ht]; · iexact Ht
    isplitl [Hcr] <;> iassumption
  imodintro
  iexists κ
  unfold Start
  isplitl [Hl]; · iexact Hl
  isplitr; · iexact Hi
  isplitl [Hd]; · iexact Hd
  isplitl [Hc]; · iexact Hc
  isplitl [Ha] <;> iassumption

/-! ## The launch -/

/-- The launch's ghost element, whole, on device 0. -/
def Ghost (c : Dev nD) : sProp 𝕄 := if c = 0 then BI.own (ER (launchOf barCells scCells toks)) else iprop(emp)

theorem ghost_eq : (bigSep Finset.univ Ghost : sProp 𝕄) = BI.own (ER (launchOf barCells scCells toks)) := by
  rw [bigSep_univ_at Ghost 0, bigSep_congr (s := Finset.univ.erase (0 : Dev nD)) (Ψ := fun _ => (BI.emp : sProp 𝕄))
      fun c hc => by unfold Ghost; rw [if_neg (Finset.ne_of_mem_erase hc)]; rfl, BI.bigSep_emp_const]
  unfold Ghost; rw [if_pos rfl]
  exact BI.equiv_iff.mp sep_emp

/-- What rides beside a device's buffers up to the kernel. -/
def E0 (c : Dev nD) : sProp 𝕄 := iprop(Kept X c ∗ (∃ W, owes (c : Thread nD τ) (O₀ c) W) ∗ ∃ r, prngReg c r)

/-- A device's own part of the deal. -/
def dealt (c : Dev nD) : sProp 𝕄 :=
  iprop(atPos ER (barCell c) 0 ∅ 0 ∗ (bigSep Finset.univ fun i : Fin 32 => iprop(openTok ER (sCell i c) ∗ openTok ER (rCell i c)))
    ∗ barToks c ∗ scToks c ∗ owes (c : Thread nD τ) (O₀ c) ∅ ∗ Pipeline.launchCred O₀ c ∗ ∃ r, prngReg c r)

theorem reached_at (c : Dev nD) : (bigSep barCells fun g => (reached ER g 0 : sProp 𝕄)) ⊢ reached ER (barCell c) 0 :=
  bigSep_elim (Finset.mem_image_of_mem (fun c : Dev nD => barCell c) (Finset.mem_univ c))

theorem bars_intro (c : Dev nD) :
    iprop((bigSep barCells fun g => reached ER g 0) ∗ barToks c)
      ⊢ (bigSep Finset.univ fun d : Fin 3 => iprop(dutyTok ER (barCell (pk d c)) 0 d ∗ reached ER (barCell (pk d c)) 0) : sProp 𝕄) := by
  unfold barToks
  refine bigSep_with_persistent (R := bigSep barCells fun g => reached ER g 0) fun d _ => (show (_ : sProp 𝕄) ⊢ _ from ?_)
  iintro ⟨#Hr, Ht⟩
  isplitl [Ht]; · iexact Ht
  iapply (reached_at (pk d c)) $$ Hr

theorem E0_intro (κ : GSem nD τ sig → ℕ) (c : Dev nD) :
    iprop((invs X κ ∗ bigSep barCells fun g => reached ER g 0) ∗ dealt c) ⊢ (E0 X c : sProp 𝕄) := by
  unfold dealt E0 Kept
  iintro ⟨⟨#Hi, #Hr⟩, Ha, Ho, Hb, Ht, HO, Hc, Hp⟩
  ihave Hc := (creds (F := F) c) $$ Hc
  icases Hc with ⟨Hcb, Hcr⟩
  isplitr [HO Hp]
  · iexists κ
    isplitr; · iexact Hi
    isplitl [Hb]
    · iapply (bars_intro c)
      isplitr; · iexact Hr
      iexact Hb
    isplitl [Hcb]; · iexact Hcb
    isplitl [Ha]; · iexact Ha
    isplitl [Ho]; · iexact Ho
    isplitl [Ht] <;> iassumption
  isplitl [HO]
  · iexists ∅; iexact HO
  iexact Hp

theorem unscoped_bar : (Finset.univ.filter fun sm : SemLoc sig => ¬ sm.isScoped .tc) = {SemLoc.reg barS} := by decide +kernel

theorem unscopedSems_eq (c : Dev nD) : (unscopedSems0 c : sProp 𝕄) = semVal (barCell c) 0 := by
  unfold unscopedSems0
  rw [unscoped_bar, BI.bigSep_singleton]

/-- The launch deals every device what it keeps. -/
theorem deal (ρ : Dev nD → PrngReg) :
    iprop((bigSep Finset.univ fun c : Dev nD => iprop(unscopedSems0 c ∗ owes (c : Thread nD τ) (O₀ c) ∅ ∗ Pipeline.launchCred O₀ c ∗ prngReg c (ρ c) ∗ Ghost c))
        ∗ levAts L lv)
      ⊢ (|={Set.univ}=> bigSep Finset.univ (E0 X) : sProp 𝕄) := by
  have hp : (bigSep Finset.univ fun c : Dev nD => (prngReg c (ρ c) : sProp 𝕄)) ⊢ bigSep Finset.univ fun c : Dev nD => iprop(∃ r, prngReg c r) :=
    bigSep_mono fun c _ => (show (_ : sProp 𝕄) ⊢ _ from by iintro H; iexists (ρ c); iexact H)
  simp only [bigSep_sep', unscopedSems_eq, ghost_eq]
  iintro ⟨⟨Hv, HO, Hc, Hp, Hg⟩, -⟩
  imod (Rounds.fund_launch ER (Rd X) disjoint_cells (fun g _ h => h) toks) $$ [Hv Hg] with ⟨%κ, -, #Hi, #Hr, Ha, Ho, Ht⟩
  · isplitl [Hv]
    · iapply (Entails.of_eq (over_bar fun g => (semVal g 0 : sProp 𝕄)).symm) $$ Hv
    iexact Hg
  imodintro
  ihave Ht := (toks_around (F := F)) $$ Ht
  icases Ht with ⟨Hb, Ht⟩
  ihave Hp := hp $$ Hp
  iapply (bigSep_with_persistent (R := iprop(invs X κ ∗ bigSep barCells fun g => reached ER g 0)) (Φ := dealt) fun c _ => E0_intro X κ c)
  isplitr
  · isplitr
    · iapply (Entails.of_eq (invs_eq X κ).symm); iexact Hi
    iexact Hr
  unfold dealt
  simp only [bigSep_sep']
  isplitl [Ha]; · iapply (Entails.of_eq (over_bar fun g => (atPos ER g 0 ∅ 0 : sProp 𝕄))) $$ Ha
  isplitl [Ho]; · iapply (Entails.of_eq ((over_sc fun g => (openTok ER g : sProp 𝕄)).trans (by simp only [bigSep_sep']))) $$ Ho
  isplitl [Hb]; · iexact Hb
  isplitl [Ht]; · iexact Ht
  isplitl [HO]; · iexact HO
  isplitl [Hc] <;> iassumption

end Cert.Proof.K
-- ==== Proof.Run.lean ====
module

public import proofs.«01_k».proof.Proof.Deal
public import proofs.«01_k».proof.Proof.Gen.KernelIdeal.Regions
public import Idealize.ShloMosaic.Lib.Pipeline.ValueKit.Geometry
public import Idealize.ShloMosaic.Lib.Quiescent

@[expose] public section

/-! The whole program from launch to its final states: the host's slice, the kernel as one region, what memory holds at
    the end. -/

set_option maxHeartbeats 400000

noncomputable section

namespace Cert.Proof.K

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- The quarter a device works on, as the host slices it. -/
def Xm (c : Dev nD) : S1024x1024.Idx → Elt F .bf16 := V1 m c main_v15

/-! ## The region's proof data -/

/-- What the kernel starts from beside its windows; what it leaves. -/
def Φ₀ (c : Dev nD) : sProp 𝕄 :=
  iprop(Pipeline.scopedRest (Ix := Unit) (Name := ℕ) (U := UU) (Lvl := ℕ) (Val := Elt F) spec0 c ∗ (∃ r, prngReg c r) ∗ ∃ κ, Start (Xm m) κ c)
def Φ₁ (c : Dev nD) : sProp 𝕄 :=
  iprop(Pipeline.scopedRest (Ix := Unit) (Name := ℕ) (U := UU) (Lvl := ℕ) (Val := Elt F) spec0 c ∗ (∃ r, prngReg c r)
    ∗ Pipeline.ownSems0 (Ix := Unit) (Name := ℕ) (U := UU) (Lvl := ℕ) (Val := Elt F) (τ := τ) osem c ∗ semVal (barCell c) 0)

def pdats (_ : Fin 1) (c : Dev nD) : Dat τ (Elt F) Unit ℕ UU ℕ cfg0 c where
  A w := V1 m c (Proc.devRef .tc (Pipeline.arrRef spec0 w))
  after w _ := match w with
    | ⟨0, _⟩ => Xm m c
    | ⟨1, _⟩ => outV (Xm m) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) ((c : Thread nD τ).loc b), ⌜g = f⌝ ∗ (((c : Thread nD τ).loc b) ↦{fullShare} g)) := by
  unfold owns; simp only [Memref.view_whole, View.read_whole, View.set_whole]

/-- A staging buffer, whole. -/
abbrev stg (c : Dev nD) (b : Ref sig .tc) (f : b.ty.Contents (Elt F)) : sProp 𝕄 :=
  iprop(∃ g : Buf (Elt F) ((c : Thread nD τ).loc b), ⌜g = f⌝ ∗ (((c : Thread nD τ).loc b) ↦{fullShare} g))

theorem before_x (c : Dev nD) (d) : (pdats m 0 c).before (0 : Fin 2) t0_0 d = Xm m c := by
  unfold Dat.before; rw [if_pos (fetch0_0 t0_0)]
  funext j
  show Xm m c (((cfg0.win (0 : Fin 2)).rect t0_0).emb j) = Xm m c j
  refine congrArg (Xm m c) (funext fun a => Fin.ext ?_)
  exact Pipeline.Window.rect_emb_val_of_index_zero _ t0_0 a (by revert a; decide +kernel) j

/-- The kernel's body, as the region runs it. -/
theorem run_region (c : Dev nD) :
    iprop(Φ₀ m c ∗ (pdats m 0 c).owesAt () t0_0.castSucc
        ∗ (∃ d, stg c cc0_stg0_0 ((pdats m 0 c).before (0 : Fin 2) t0_0 d)) ∗ (∃ d, stg c cc0_stg1_0 ((pdats m 0 c).before (1 : Fin 2) t0_0 d)))
      ⊢ WP c (cc0_body (F := F) xM (Memref.isWhole_whole _) oM (Memref.isWhole_whole _) aM (Memref.isWhole_whole _) rM (Memref.isWhole_whole _) cc0_scratch2 cc0_scratch3 cc0_scratch4 cc0_scratch5 cc0_scratch6 cc0_scratch7 cc0_scratch8 cc0_scratch9 cc0_scratch10 cc0_scratch11 cc0_scratch12 cc0_scratch13)
        (fun _ => iprop(Φ₁ c ∗ (pdats m 0 c).owesAt () t0_0.succ ∗ stg c cc0_stg0_0 (Xm m c) ∗ stg c cc0_stg1_0 (outV (Xm m) c))) := by
  have hx : ∀ d, (stg c cc0_stg0_0 ((pdats m 0 c).before (0 : Fin 2) t0_0 d) : sProp 𝕄) ⊢ ((c : Thread nD τ).loc cc0_stg0_0) ↦{fullShare} Xm m c := by
    intro d; rw [before_x]; iintro ⟨%g, %hg, H⟩; rw [hg]; iexact H
  unfold Φ₀ Φ₁ Dat.owesAt Pipeline.owesWithin
  rw [show (pdats m 0 c).owed t0_0.castSucc = O₀ c from rfl, show (pdats m 0 c).owed t0_0.succ = 0 from rfl, scopedRest0_eq]
  iintro ⟨⟨⟨⟨%f, Hf⟩, %g, Hg⟩, Hp, %κ, Hst⟩, ⟨%W, %hW, HO⟩, ⟨%d0, Hx⟩, %d1, %o, %ho, Ho⟩
  ihave Hx := (hx d0) $$ Hx
  ihave Hpre := (pre_intro (Xm m) κ c f g o) $$ [Hst HO Hx Ho Hf Hg]
  · isplitl [Hst]; · iexact Hst
    isplitl [HO]; · iexists W; iexact HO
    isplitl [Hx]; · iexact Hx
    isplitl [Ho]; · iexact Ho
    isplitl [Hf] <;> iassumption
  ihave Hwp := (run_body (Xm m) κ c) $$ Hpre
  iapply (wp_wand _ _ _) $$ Hwp
  iintro %a H
  unfold Fin'
  icases H with ⟨⟨%W', HO⟩, Hx, Ho, Hf, Hg, Hs, Hb⟩
  isplitl [Hf Hg Hp Hs Hb]
  · isplitl [Hf Hg]
    · isplitl [Hf]
      · iexists _; iexact Hf
      iexists _; iexact Hg
    isplitl [Hp]; · iexact Hp
    isplitl [Hs] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Ho

set_option maxRecDepth 4000 in
theorem body_obligation (c : Dev nD) : BodyObligation (pdats (F := F) m 0 c) (defs₀ (F := F)) 𝒱₀ () Set.univ := fun t => by
  rw [fin_N0 t, bigSep_W0, bigSep_W0]
  simp only [owns_whole]
  exact run_region m c

/-! ## The region -/

/-- What the region leaves in its result. -/
def outs : Outs (F := F) := fun _ r c => Function.update (fun r : Ref sig .tc => V1 m c r) main_v16 (outV (Xm m) c) r

theorem V2_result (c : Dev nD) : V2 m (outs m) c main_v16 = outV (Xm m) c := by
  unfold V2 outs; rw [Function.update_self, Function.update_self]

theorem arr_x (c : Dev nD) : (pdats m 0 c).arrAt (0 : Fin 2) cfg0.N = V1 m c main_v15 := (pdats m 0 c).arrAt_in (0 : Fin 2) rfl _

theorem arr_o (c : Dev nD) : (pdats m 0 c).arrAt (1 : Fin 2) cfg0.N = outV (Xm m) c :=
  (pdats m 0 c).arrAt_eq_of_after_last (1 : Fin 2) t0_0 (by decide +kernel) (outV (Xm m) c) fun _ => rfl

theorem tlev_pos : ∀ i : Fin 32, 0 < tlev i := by decide +kernel

/-- What a device owes at launch lies above every staging counter's level. -/
theorem owed_above {c : Dev nD} {g : GSem nD τ sig} {u : Unit} (h : 0 < O₀ c g u) : u ∈ L g ∧ 0 < lv g u := by
  have hb : ∀ d : Fin 3, () ∈ L (barCell (pk d c)) ∧ 0 < lv (barCell (pk d c)) () := fun d =>
    ⟨by rw [L_tc]; exact Finset.mem_singleton_self _, Nat.one_pos⟩
  have hc : ∀ d : Fin 3, 0 < (tallyAt (barCell (pk d c)) () 1 : CellTallies nD τ sig Unit) g u → u ∈ L g ∧ 0 < lv g u := by
    intro d hd
    rw [tallyAt_apply] at hd
    split at hd
    · next e => obtain ⟨rfl, rfl⟩ := e; exact hb d
    · exact absurd hd (Nat.lt_irrefl 0)
  unfold O₀ at h
  simp only [Pi.add_apply, Finsupp.add_apply] at h
  rcases Nat.add_pos_iff_pos_or_pos.mp h with h | h
  · rcases Nat.add_pos_iff_pos_or_pos.mp h with h | h
    · rcases Nat.add_pos_iff_pos_or_pos.mp h with h | h
      · obtain ⟨i, -, rfl⟩ := dueT_pos h
        refine ⟨by rw [L_tc]; exact Finset.mem_singleton_self _, ?_⟩
        rw [lv_r]; exact tlev_pos i
      · exact hc 2 h
    · exact hc 1 h
  · exact hc 0 h

/-- The staging buffers' counters carry no transfer of the kernel's. -/
theorem staging_low : ∀ (w : Fin cfg0.W) (s : Fin (cfg0.win w).nbuf), whichR ((cfg0.win w).sem s) = none := by decide +kernel

theorem result_in : (Proc.devRef .tc main_v16 : DevRef τ sig) ∈ Pipeline.arrRefs (τ := τ) spec0 := by decide +kernel

theorem no_held (c : Dev nD) (V : Valuation τ sig (Elt F)) : (StableHlo.held (c.tc : Thread nD τ) ∅ V : sProp 𝕄) = BI.emp := by
  unfold StableHlo.held; exact BI.bigSep_empty

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide +kernel : Pipeline.OwnSemFacts spec0 osem)
    ∅ (Pipeline.ucRefs τ sig \ Pipeline.arrRefs spec0) (Finset.empty_subset _) launch0.toP rfl (fun c => (body_obligation m c).loose)
    (fun _ => 0) O₀ (fun c => (zero_add (O₀ c)).symm) (fun _ => rfl) (fun _ => rfl) (fun c w => by unfold Dat.share; split <;> rfl)
    (V1 m) (V2 m (outs m)) (fun c b hb => Function.update_of_ne (fun e : b = Proc.devRef .tc main_v16 =>
      (Finset.mem_sdiff.mp (Finset.mem_sdiff.mp hb).1).2 (by rw [e]; exact result_in)) _ _)
    (Kept (Xm m)) (fun c => semVal (barCell c) 0) (fun c => iprop(∃ κ, Start (Xm m) κ c)) (fun c => semVal (barCell c) 0)
    (hopen (Xm m)) (fun c => by
      show _ ⊢ Φ₀ m c
      unfold Φ₀
      iintro ⟨Hs, Hp, -, Hst⟩
      isplitl [Hs]; · iexact Hs
      isplitl [Hp] <;> iassumption)
    (fun c => by
      show Φ₁ c ⊢ _
      unfold Φ₁
      rw [no_held]
      iintro ⟨Hs, Hp, Ho, Hb⟩
      isplitl [Hs]; · iexact Hs
      isplitl [Hp]; · iexact Hp
      isplitr; · iempintro
      isplitl [Ho] <;> iassumption)
    (fun c => by iintro H; imodintro; iexact H)
    (fun _ => 0)
    ⟨fun c w s => by rw [L_tc]; exact Finset.mem_singleton_self _, fun c w s => by
      show (match whichR ((cfg0.win w).sem s) with | some i => tlev i | none => 0) ≤ 0
      rw [staging_low], fun c t g i h => by
      obtain ⟨_ | n, ht⟩ := t
      · exact owed_above h
      · exact absurd h (Nat.lt_irrefl 0)⟩
    (fun _ => iprop(emp))
    (fun c w => rfl) (fun c w => by
      match w with
      | ⟨0, _⟩ => exact (arr_x m c).trans (V2_of m (outs m) c main_v15 (by decide)).symm
      | ⟨1, _⟩ => exact (arr_o m c).trans (V2_result m c).symm)

/-! ## The launch and the end -/

/-- What rides beside the buffers: up to the kernel, and after it. -/
def rests : Fin 2 → Dev nD → sProp 𝕄
  | ⟨0, _⟩, c => E0 (Xm m) c
  | ⟨_ + 1, _⟩, c => iprop(semVal (barCell c) 0 ∗ ∃ W, owes (c : Thread nD τ) (0 : CellTallies nD τ sig Unit) W)

theorem reg_pre (c : Dev nD) :
    iprop(StableHlo.held (c : Thread nD τ) (Pipeline.ucRefs τ sig) (V1 m c) ∗ rests m 0 c) ⊢ (reg m).pre c := by
  show iprop(_ ∗ E0 (Xm m) c) ⊢ iprop(StableHlo.held (c.tc : Thread nD τ) (Pipeline.arrRefs (τ := τ) spec0) (V1 m c) ∗ (∃ r, prngReg c r)
    ∗ (StableHlo.held (c.tc : Thread nD τ) (Pipeline.ucRefs τ sig \ Pipeline.arrRefs spec0) (V1 m c) ∗ emp)
    ∗ Kept (Xm m) c ∗ ∃ Wd, owes (c : Thread nD τ) (0 + O₀ c) Wd)
  rw [zero_add, StableHlo.held_sub_split (c : Thread nD τ) (Pipeline.arrRefs_sub_ucRefs spec0 (by decide)) (V1 m c)]
  unfold E0
  iintro ⟨⟨Ha, Hr⟩, HK, HO, Hp⟩
  isplitl [Ha]; · iexact Ha
  isplitl [Hp]; · iexact Hp
  isplitl [Hr]
  · isplitl [Hr]; · iexact Hr
    iempintro
  isplitl [HK] <;> iassumption

theorem reg_post (c : Dev nD) :
    (reg m).post c ⊢ iprop(StableHlo.held (c : Thread nD τ) (Pipeline.ucRefs τ sig) (V2 m (outs m) c) ∗ rests m 1 c) := by
  show iprop(StableHlo.held (c.tc : Thread nD τ) (Pipeline.arrRefs (τ := τ) spec0) (V2 m (outs m) c) ∗ (∃ r, prngReg c r)
    ∗ (StableHlo.held (c.tc : Thread nD τ) (Pipeline.ucRefs τ sig \ Pipeline.arrRefs spec0) (V2 m (outs m) c) ∗ emp)
    ∗ semVal (barCell c) 0 ∗ ∃ Wd, owes (c : Thread nD τ) (0 : CellTallies nD τ sig Unit) Wd)
    ⊢ iprop(_ ∗ semVal (barCell c) 0 ∗ ∃ W, owes (c : Thread nD τ) (0 : CellTallies nD τ sig Unit) W)
  rw [StableHlo.held_sub_split (c : Thread nD τ) (Pipeline.arrRefs_sub_ucRefs spec0 (by decide)) (V2 m (outs m) c)]
  iintro ⟨Ha, -, ⟨Hr, -⟩, Hb, HO⟩
  isplitl [Ha Hr]; · isplitl [Ha] <;> iassumption
  isplitl [Hb] <;> iassumption

/-- The launch element: the staging cells' and the protocol's. -/
def u₀ : UU :=
  (initOf (Pipeline.cells cfgs cellOf_inj) (Pipeline.launchToks cfgs cellOf_inj), launchOf barCells scCells toks)

theorem launch_split (ρ : Dev nD → PrngReg) :
    iprop((bigSep Finset.univ fun c : Dev nD => iprop(unscopedBufs c (fun b => m ((c.tc : Thread nD τ).loc b)) ∗ unscopedSems0 c
        ∗ owes (c : Thread nD τ) (O₀ c) ∅ ∗ Pipeline.launchCred O₀ c ∗ prngReg c (ρ c) ∗ Ghost c)) ∗ levAts L lv)
      ⊢ (|={Set.univ}=> bigSep Finset.univ fun c : Dev nD =>
          iprop(StableHlo.held (c : Thread nD τ) (Pipeline.ucRefs τ sig) (V0 m c) ∗ E0 (Xm m) c) : sProp 𝕄) := by
  have hb : ∀ c : Dev nD, (unscopedBufs c (fun b => m ((c.tc : Thread nD τ).loc b)) : sProp 𝕄)
      = StableHlo.held (c : Thread nD τ) (Pipeline.ucRefs τ sig) (V0 m c) := fun c =>
    Pipeline.unscopedBufs_held (Ix := Unit) (Name := ℕ) (U := UU) (Lvl := ℕ) c (V0 m c)
  rw [bigSep_sep', bigSep_congr fun c _ => hb c]
  iintro ⟨⟨Hh, Hr⟩, Hla⟩
  imod (deal (Xm m) ρ) $$ [Hr Hla] with HE
  · isplitl [Hr] <;> iassumption
  imodintro
  rw [bigSep_sep']
  isplitl [Hh] <;> iassumption

/-- What a device's final holdings say of the final state. -/
theorem read_end (c : Dev nD) (s' : Phys nD τ sig (Elt F)) :
    iprop((StableHlo.held (c : Thread nD τ) (Pipeline.ucRefs τ sig) (V2 m (outs m) c) ∗ semVal (barCell c) 0) ∗ SI s')
      ⊢ (|={Set.univ}=> iprop(⌜(s'.mem.mem ((c : Thread nD τ).loc main_arg0) = m ((c : Thread nD τ).loc main_arg0)
          ∧ s'.mem.mem ((c : Thread nD τ).loc main_v16) = outV (Xm m) c) ∧ s'.mem.sem (barCell c) = 0⌝ ∗ SI s') : sProp 𝕄) := by
  unfold StableHlo.held
  iintro ⟨⟨Hh, Hb⟩, HSI⟩
  icombine HSI Hb gives %hb
  ihave Hr := (pointsTo_read_all (Pipeline.ucRefs τ sig) (fun b => ((c : Thread nD τ).1, b)) (V2 m (outs m) c) s') $$ [Hh HSI]
  · isplitl [Hh] <;> iassumption
  icases Hr with ⟨%h, HSI⟩
  imodintro
  isplitr
  · ipureintro
    exact ⟨⟨(h (Proc.devRef .tc main_arg0) (Finset.mem_filter.mpr ⟨StableHlo.devRef_mem_tcRefs main_arg0, by decide⟩)).trans (V2_main_arg0 m (outs m) c),
      (h (Proc.devRef .tc main_v16) (Finset.mem_filter.mpr ⟨StableHlo.devRef_mem_tcRefs main_v16, by decide⟩)).trans (V2_result m c)⟩, by simpa using hb⟩
  iexact HSI

theorem unscoped_sem (sm : SemLoc sig) (h : sm.isScoped .tc = false) : sm = .reg barS := by
  have : sm ∈ Finset.univ.filter fun sm : SemLoc sig => ¬ sm.isScoped .tc :=
    Finset.mem_filter.mpr ⟨Finset.mem_univ _, by rw [h]; decide⟩
  rw [unscoped_bar] at this
  exact Finset.mem_singleton.mp this

set_option backward.isDefEq.respectTransparency.types false in
/-- From any memory with zero counters the program ends on every device with its argument unchanged, its result computed
    from the quarters, and every counter at zero. -/
theorem run_main (ρ : Dev nD → PrngReg) : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_v16) = outV (Xm m) c) ∧ r.2.sem = fun _ => 0) := by
  refine Pipeline.θ_run_regions_kit_dev_sems (pcfgs (F := F)) adm (pdats m) () cellOf_inj EP defs₀ 𝒱₀ L lv m ρ main
    (segs m 𝒱₀ L lv (rests m) () (pdats m) (reg m))
    (fun c Q => by
      rewrite [main_chain c, Pipeline.Seg.run_eq_chain,
        show (segs m 𝒱₀ L lv (rests m) () (pdats m) (reg m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) O₀ L_of_ne Ghost u₀
    (hu₀ := ?_)
    (T₀ := fun c => iprop(StableHlo.held (c : Thread nD τ) (Pipeline.ucRefs τ sig) (V0 m c) ∗ rests m 0 c))
    (Tₙ := fun c => iprop(StableHlo.held (c : Thread nD τ) (Pipeline.ucRefs τ sig) (V2 m (outs m) c) ∗ semVal (barCell c) 0))
    (hch := fun c => ⟨.rfl, reg_pre m c, (reg_post m c).trans ?_⟩)
    (hinit := launch_split m ρ)
    (QY := fun c s => (s.mem ((c.tc : Thread nD τ).loc main_arg0) = m ((c.tc : Thread nD τ).loc main_arg0)
      ∧ s.mem ((c.tc : Thread nD τ).loc main_v16) = outV (Xm m) c) ∧ s.sem (barCell c) = 0)
    (hfin := read_end m)
    (hQ := fun s h hs => ⟨fun c => (h c).1, sem_eq_zero hs fun c sm hsm => by
      obtain rfl := unscoped_sem sm hsm
      exact (h c).2⟩)
  · unfold u₀
    iintro Hu
    ihave H := (ownU_pair _ _) $$ Hu
    icases H with ⟨HP, HX⟩
    imodintro
    isplitl [HP]; · iexact HP
    rw [ghost_eq]; iexact HX
  · show iprop(_ ∗ semVal (barCell c) 0 ∗ ∃ W, owes (c : Thread nD τ) (0 : CellTallies nD τ sig Unit) W) ⊢ _
    iintro ⟨Hh, Hb, HO⟩
    isplitr [HO]
    · isplitl [Hh] <;> iassumption
    iexact HO

end Cert.Proof.K
-- ==== Proof.Value.lean ====
module

public import proofs.«01_k».proof.Proof.Run
public import proofs.«01_k».proof.Proof.Gen.ReferenceIdeal.Run
public import Idealize.ShloMosaic.Lib.StableHlo.Run
public import Idealize.ShloMosaic.Lib.DynamicIndex
public import Idealize.ShloMosaic.Lib.Layout
public import Idealize.ShloMosaic.Lib.Pointwise
public import Idealize.ShloMosaic.PureOps.Ideal.Laws

@[expose] public section

/-! What the kernel's result is as a function of the whole argument, and what the reference's is: the same sum. -/

set_option maxHeartbeats 400000

noncomputable section

namespace Cert.Proof.K

open Idealize.ShloMosaic
open Idealize.ShloMosaic.TcCoe
open Cert.KernelIdeal Cert.KernelIdeal.Gen

/-! ## The quarter the host slices -/

section Slice

variable {F : FTy → Type} [FloatOps F]

/-- The row a device's quarter starts at. -/
def row0 (c : Dev nD) : ℕ := (2 * (c.val / 4) + c.val % 2) * 1024

/-- The row as the host computes it from the device's number. -/
def rowW (c : Dev nD) : IVec S_ 32 :=
  let g : IVec S_ 32 := addi (muli (constantI S_ 32 2#32) (Host.remui (Host.divui (constantI S_ 32 (Dev.word c)) (constantI S_ 32 4#32)) (constantI S_ 32 2#32)))
    (Host.remui (Host.divui (constantI S_ 32 (Dev.word c)) (constantI S_ 32 1#32)) (constantI S_ 32 2#32))
  let r := muli g (constantI S_ 32 1024#32)
  select (cmpi .slt r (constantI S_ 32 0#32)) (addi r (constantI S_ 32 4096#32)) r

theorem rowW_eq (c : Dev nD) : (rowW c (Shape.Idx.first h_S_)).toInt = (row0 c : ℤ) := by
  revert c; decide +kernel

variable (m : (ℓ : Loc nD τ sig) → Buf (Elt F) ℓ)

/-- The host's operations before the slice. -/
abbrev words (c : Dev nD) : List (HloOp τ sig (Elt F)) := (hostOps0 c).dropLast

theorem at_row (c : Dev nD) (V : Valuation τ sig (Elt F)) : StableHlo.after (words c) V (Proc.devRef .tc main_v14) = rowW c := by
  simp only [words, hostOps0, List.dropLast]
  after_results_simp
  rfl

theorem at_col (c : Dev nD) (V : Valuation τ sig (Elt F)) :
    StableHlo.after (words c) V (Proc.devRef .tc main_c_7) = constantI S_ 32 0#32 := by
  simp only [words, hostOps0, List.dropLast]
  after_results_simp

theorem at_arg (c : Dev nD) (V : Valuation τ sig (Elt F)) :
    StableHlo.after (words c) V (Proc.devRef .tc main_arg0) = V (Proc.devRef .tc main_arg0) := by
  simp only [words, hostOps0, List.dropLast]
  after_results_simp

theorem Xm_slice (c : Dev nD) : Xm m c = Host.dynamicSlice S1024x1024 (m ((c : Thread nD τ).loc main_arg0))
    (fun k => ((![rowW c, constantI S_ 32 0#32] k) (Shape.Idx.first h_S_)).toInt) sliceFits_S4096x1024_S1024x1024 := by
  show StableHlo.after (hostOps0 c) (V0 m c) (Proc.devRef .tc main_v15) = _
  rw [← List.dropLast_append_getLast (l := hostOps0 (F := F) c) (List.cons_ne_nil _ _), StableHlo.after_append]
  simp only [List.getLast_cons, List.getLast_singleton, ne_eq, reduceCtorEq, not_false_eq_true, StableHlo.after_cons, StableHlo.after_nil]
  rw [StableHlo.unaryIndexed_result, at_arg]
  refine congrArg (fun st => Host.dynamicSlice S1024x1024 (m ((c : Thread nD τ).loc main_arg0)) st sliceFits_S4096x1024_S1024x1024) (funext fun k => ?_)
  match k with
  | ⟨0, _⟩ => exact congrArg (fun w : IVec S_ 32 => (w (Shape.Idx.first h_S_)).toInt) (at_row c (V0 m c))
  | ⟨1, _⟩ => exact congrArg (fun w : IVec S_ 32 => (w (Shape.Idx.first h_S_)).toInt) (at_col c (V0 m c))

theorem row0_le : ∀ c : Dev nD, row0 c ≤ 3072 := by decide

/-- A device's quarter, element by element. -/
theorem Xm_apply (c : Dev nD) (j : S1024x1024.Idx) (i : S4096x1024.Idx) (h0 : (i 0).val = row0 c + (j 0).val) (h1 : (i 1).val = (j 1).val) :
    Xm m c j = m ((c : Thread nD τ).loc main_arg0) i := by
  have hr := row0_le c
  rw [Xm_slice, Host.dynamicSlice_apply]
  refine congrArg (m ((c : Thread nD τ).loc main_arg0)) (funext fun a => Fin.ext ?_)
  have e0 := rowW_eq c
  rw [Shape.Idx.norm_def]
  match a with
  | ⟨0, _⟩ =>
    refine Eq.trans (congrArg (· + (j 0).val) (Host.clampedStart_of_le (s := S4096x1024) (t := S1024x1024) rfl _ 0 (row0 c) e0 ?_)) h0.symm
    show row0 c + 1024 ≤ 4096; omega
  | ⟨1, _⟩ =>
    refine Eq.trans (congrArg (· + (j 1).val) (Host.clampedStart_of_le (s := S4096x1024) (t := S1024x1024) rfl _ 1 0 ?_ ?_)) ((Nat.zero_add _).trans h1.symm)
    · show (0#32 : BitVec 32).toInt = 0; rfl
    · show 0 + 1024 ≤ 1024; exact Nat.le_refl _

end Slice

/-! ## The sum of the two halves -/

section Sum

/-- Index `i` of half `b` of the whole argument. -/
def half (b : Fin 2) (i : S4096x1024.Idx) : (⟨2, ![8192, 1024]⟩ : Shape).Idx :=
  Shape.pair (d := ![8192, 1024]) ⟨b.val * 4096 + (i 0).val, by have : (i 0).val < 4096 := (i 0).isLt; show _ < 8192; omega⟩ ⟨(i 1).val, (i 1).isLt⟩

/-- Each element is the sum of the two halves' elements. -/
def halves (M : (⟨2, ![8192, 1024]⟩ : Shape).Idx → EReal) (i : S4096x1024.Idx) : EReal := M (half 0 i) + M (half 1 i)

theorem mesh_y : ∀ c : Dev nD, Layout.meshLin [2, 2, 2] c.val [1] = (yOf c).val := by decide
theorem mesh_none : ∀ c : Dev nD, Layout.meshLin [2, 2, 2] c.val [] = 0 := by decide

/-- Device `c`'s part of the whole argument is the half its y coordinate names. -/
theorem part_apply (M : (⟨2, ![8192, 1024]⟩ : Shape).Idx → EReal) (c : Dev nD) (i : S4096x1024.Idx) :
    Layout.blockN ⟨2, ![4096, 1024]⟩ ⟨2, ![8192, 1024]⟩ (Layout.meshBlock [2, 2, 2] ![[1], []] c) M (by decide) i = M (half (yOf c) i) := by
  rw [Layout.blockN_apply]
  refine congrArg M (funext fun a => Fin.ext ?_)
  match a with
  | ⟨0, _⟩ =>
    show Layout.meshLin [2, 2, 2] c.val [1] * 4096 + (i 0).val = (yOf c).val * 4096 + (i 0).val
    rw [mesh_y]
  | ⟨1, _⟩ =>
    show Layout.meshLin [2, 2, 2] c.val [] * 1024 + (i 1).val = (i 1).val
    rw [mesh_none, Nat.zero_mul, Nat.zero_add]

/-- A chunk's owner works on the quarter the chunk lies in. -/
theorem owner_row : ∀ (c : Dev nD) (k : Fin 32), row0 (owner c k) = k.val / 8 * 1024 := by decide +kernel
theorem mate_row : ∀ c : Dev nD, row0 (pk 0 c) = row0 c := by decide
theorem mate_y : ∀ c : Dev nD, yOf (pk 0 c) = 1 - yOf c := by decide

variable (m : (ℓ : Loc nD τ sig) → Buf (Elt Ideal) ℓ) (M : (⟨2, ![8192, 1024]⟩ : Shape).Idx → EReal)

/-- Every device's result is the sum of the two halves. -/
theorem out_eq (hm : ∀ c : Dev nD, m ((c : Thread nD τ).loc main_arg0)
      = Layout.blockN ⟨2, ![4096, 1024]⟩ ⟨2, ![8192, 1024]⟩ (Layout.meshBlock [2, 2, 2] ![[1], []] c) M) (c : Dev nD) :
    outV (Xm m) c = halves M := by
  funext i
  have hi : (i 0).val < 4096 := (i 0).isLt
  have hr := owner_row c (ckOf i)
  have hk : (ckOf i).val = (i 0).val / 128 := rfl
  have hq : (inQ i 0).val = (i 0).val % 1024 := rfl
  have h0 : (i 0).val = row0 (owner c (ckOf i)) + (inQ i 0).val := by rw [hr, hk, hq]; omega
  show Xm m (owner c (ckOf i)) (inQ i) + Xm m (pk 0 (owner c (ckOf i))) (inQ i) = _
  rw [Xm_apply m _ _ i h0 rfl, Xm_apply m _ _ i (by rw [mate_row]; exact h0) rfl, hm, hm, part_apply, part_apply, mate_y]
  unfold halves
  generalize yOf (owner c (ckOf i)) = b
  match b with
  | ⟨0, _⟩ => rfl
  | ⟨1, _⟩ => exact add_comm _ _

/-- The reference's result is the same sum. -/
theorem ref_eq (h₁ h₂ h₃ h₄ h₅) :
    truncf (F := Ideal) .bf16 (Host.reduceAdd (F := Ideal) (extf (F := Ideal) (φ := .bf16) .f32 (shapeCast (α := EReal) Cert.ReferenceIdeal.S2x4096x1024 M h₁) h₂)
      (constant Cert.ReferenceIdeal.S_ .f32 0x00000000#32) (axes := [0]) (t := Cert.ReferenceIdeal.S4096x1024) h₃ h₄) h₅ = halves M := by
  funext i
  simp only [pointwise]
  rw [zero_add, Fin.sum_univ_two]
  refine congrArg₂ (· + ·) (congrArg M (funext fun a => ?_)) (congrArg M (funext fun a => ?_)) <;>
    match a with
    | ⟨0, _⟩ => rfl
    | ⟨1, _⟩ => rfl

end Sum

end Cert.Proof.K
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- Over any float values the idealized program ends, faultless, with its argument unchanged and every counter at zero. -/
theorem frame_any {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c).1, h.2⟩) (K.run_main m ρ)

set_option smartUnfolding false in
/-- The kernel as printed has the same text, so it ends the same way. -/
theorem frame_kernel : Cert.quiescent_Kernel (hKernel := Cert.Kernel.Gen.facts) := fun m ρ _ => frame_any (F := Bits) m ρ

/-- So does its idealization. -/
theorem frame_ideal [Cert.KernelIdeal.Facts] : Cert.quiescent_KernelIdeal := fun m ρ _ =>
  frame_any (F := Ideal) m ρ

/-- So does the reference, which declares no semaphore. -/
theorem frame_reference [Cert.ReferenceIdeal.Facts] : Cert.quiescent_ReferenceIdeal := fun m ρ _ =>
  (θ_run (Cert.ReferenceIdeal.defs (F := Ideal)) _ _).mono (fun r h => ⟨fun c => (h c).2, sem_eq_zero_of_no_sems rfl r.2⟩)
    (Cert.ReferenceIdeal.Value.run (F := Ideal) m ρ)

/-- Where each device's argument is its half of the reference's, every device's result is the reference's. -/
theorem value [Cert.KernelIdeal.Facts] [Cert.ReferenceIdeal.Facts] : Cert.algebraic_KernelIdeal_ReferenceIdeal :=
  fun m g m' g' _ hm =>
    ⟨K.halves (m' (((0 : Dev Cert.ReferenceIdeal.nD).tc : Thread Cert.ReferenceIdeal.nD Cert.ReferenceIdeal.τ).loc Cert.ReferenceIdeal.main_arg0)),
      (θ_run (Cert.KernelIdeal.defs (F := Ideal)) _ _).mono
        (fun _ h c => ⟨(h.1 c).2.trans (K.out_eq m _ hm c), (h.1 c).1⟩) (K.run_main (F := Ideal) m g),
      (θ_run (Cert.ReferenceIdeal.defs (F := Ideal)) _ _).mono
        (fun _ h => ⟨(h 0).1.trans (K.ref_eq _ _ _ _ _ _), (h 0).2⟩) (Cert.ReferenceIdeal.Value.run (F := Ideal) m' g')⟩

/-- All five claims. -/
theorem claim : Cert.Claim :=
  ⟨Cert.Kernel.Gen.facts, Cert.KernelIdeal.Gen.facts, Cert.ReferenceIdeal.Gen.facts,
    frame_kernel, frame_ideal, frame_reference, trivial, value⟩

end Cert.Proof

end
